-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 256, 32, 64]⟩ 2 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 256, 32, 64]⟩ 2 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v45) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x2048 : Shape := ⟨2, ![512, 2048]⟩
abbrev S2x256x4x64 : Shape := ⟨4, ![2, 256, 4, 64]⟩
abbrev S2048x512 : Shape := ⟨2, ![2048, 512]⟩
abbrev S_ : Shape := ⟨0, ![]⟩

class Facts : Prop where
  bcast_S_S2x256x512 : S_.BroadcastsInDim S2x256x512 (![] : Fin 0 → Fin S2x256x512.rank)
  bcast_S_S512x2048 : S_.BroadcastsInDim S512x2048 (![] : Fin 0 → Fin S512x2048.rank)
  bcast_S_S2x256x4x64 : S_.BroadcastsInDim S2x256x4x64 (![] : Fin 0 → Fin S2x256x4x64.rank)

variable [Facts]

def fn {F : FTy → Type} [FloatOps F] (main_arg0 : FVec F S2x256x512 .f32) (main_arg1 : FVec F S512x2048 .f32) (main_arg2 : FVec F S2x256x4x64 .f32) (main_arg3 : FVec F S2x256x4x64 .f32) (main_arg4 : FVec F S2048x512 .f32) : IVec S2x256x512 1 × IVec S512x2048 1 × IVec S2x256x4x64 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_v3 : FVec F S512x2048 .f32 := Host.absf main_arg1
  let main_cst_0 : FVec F S_ .f32 := constant S_ .f32 0x7F800000#32
  let main_v4 : FVec F S512x2048 .f32 := broadcastInDim S512x2048 ![] bcast_S_S512x2048 main_cst_0
  let main_v5 : IVec S512x2048 1 := cmpf .olt main_v3 main_v4
  let main_v6 : FVec F S2x256x4x64 .f32 := Host.absf main_arg2
  let main_cst_1 : FVec F S_ .f32 := constant S_ .f32 0x7F800000#32
  let main_v7 : FVec F S2x256x4x64 .f32 := broadcastInDim S2x256x4x64 ![] bcast_S_S2x256x4x64 main_cst_1
  let main_v8 : IVec S2x256x4x64 1 := cmpf .olt main_v6 main_v7
  (main_v2, main_v5, main_v8)
-- ==== Pre_finite_ReferenceIdeal.lean ====
abbrev S2x256x512 : Shape := ⟨3, ![2, 256, 512]⟩
abbrev S512x2048 : Shape := ⟨2, ![512, 2048]⟩
abbrev S2x256x32x64 : Shape := ⟨4, ![2, 256, 32, 64]⟩
abbrev S2048x512 : Shape := ⟨2, ![2048, 512]⟩
abbrev S_ : Shape := ⟨0, ![]⟩

class Facts : Prop where
  bcast_S_S2x256x512 : S_.BroadcastsInDim S2x256x512 (![] : Fin 0 → Fin S2x256x512.rank)
  bcast_S_S512x2048 : S_.BroadcastsInDim S512x2048 (![] : Fin 0 → Fin S512x2048.rank)
  bcast_S_S2x256x32x64 : S_.BroadcastsInDim S2x256x32x64 (![] : Fin 0 → Fin S2x256x32x64.rank)

variable [Facts]

def fn {F : FTy → Type} [FloatOps F] (main_arg0 : FVec F S2x256x512 .f32) (main_arg1 : FVec F S512x2048 .f32) (main_arg2 : FVec F S2x256x32x64 .f32) (main_arg3 : FVec F S2x256x32x64 .f32) (main_arg4 : FVec F S2048x512 .f32) : IVec S2x256x512 1 × IVec S512x2048 1 × IVec S2x256x32x64 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_v3 : FVec F S512x2048 .f32 := Host.absf main_arg1
  let main_cst_0 : FVec F S_ .f32 := constant S_ .f32 0x7F800000#32
  let main_v4 : FVec F S512x2048 .f32 := broadcastInDim S512x2048 ![] bcast_S_S512x2048 main_cst_0
  let main_v5 : IVec S512x2048 1 := cmpf .olt main_v3 main_v4
  let main_v6 : FVec F S2x256x32x64 .f32 := Host.absf main_arg2
  let main_cst_1 : FVec F S_ .f32 := constant S_ .f32 0x7F800000#32
  let main_v7 : FVec F S2x256x32x64 .f32 := broadcastInDim S2x256x32x64 ![] bcast_S_S2x256x32x64 main_cst_1
  let main_v8 : IVec S2x256x32x64 1 := cmpf .olt main_v6 main_v7
  (main_v2, main_v5, main_v8)
-- ==== Kernel.lean ====
abbrev S2x256x512 : Shape := ⟨3, ![2, 256, 512]⟩
abbrev S512x2048 : Shape := ⟨2, ![512, 2048]⟩
abbrev S2x256x4x64 : Shape := ⟨4, ![2, 256, 4, 64]⟩
abbrev S2048x512 : Shape := ⟨2, ![2048, 512]⟩
abbrev S512x512 : Shape := ⟨2, ![512, 512]⟩
abbrev S448x512 : Shape := ⟨2, ![448, 512]⟩
abbrev S14 : Shape := ⟨1, ![14]⟩
abbrev S_ : Shape := ⟨0, ![]⟩
abbrev S512x256 : Shape := ⟨2, ![512, 256]⟩
abbrev S256x256 : Shape := ⟨2, ![256, 256]⟩
abbrev S2x256x256 : Shape := ⟨3, ![2, 256, 256]⟩
abbrev S256x64 : Shape := ⟨2, ![256, 64]⟩
abbrev S1x256x64 : Shape := ⟨3, ![1, 256, 64]⟩
abbrev S256 : Shape := ⟨1, ![256]⟩
abbrev S256x1 : Shape := ⟨2, ![256, 1]⟩
abbrev S256x512 : Shape := ⟨2, ![256, 512]⟩
abbrev S64x512 : Shape := ⟨2, ![64, 512]⟩
abbrev S1 : Shape := ⟨1, ![1]⟩

abbrev nBuf : Space → Nat
  | .hbm => 6
  | .vmem => 9
  | .smem => 0
  | _ => 0

abbrev bufTy : (tb : Table) → Fin (tcTables nBuf tb) → BufTy
  | .hbm, ⟨0, _⟩ => ⟨S2x256x512, .f32⟩
  | .hbm, ⟨1, _⟩ => ⟨S512x2048, .f32⟩
  | .hbm, ⟨2, _⟩ => ⟨S2x256x4x64, .f32⟩
  | .hbm, ⟨3, _⟩ => ⟨S2x256x4x64, .f32⟩
  | .hbm, ⟨4, _⟩ => ⟨S2048x512, .f32⟩
  | .hbm, ⟨5, _⟩ => ⟨S512x512, .f32⟩
  | .local _ .vmem, ⟨0, _⟩ => ⟨S2x256x512, .f32⟩
  | .local _ .vmem, ⟨1, _⟩ => ⟨S512x2048, .f32⟩
  | .local _ .vmem, ⟨2, _⟩ => ⟨S2x256x4x64, .f32⟩
  | .local _ .vmem, ⟨3, _⟩ => ⟨S2x256x4x64, .f32⟩
  | .local _ .vmem, ⟨4, _⟩ => ⟨S2048x512, .f32⟩
  | .local _ .vmem, ⟨5, _⟩ => ⟨S512x512, .f32⟩
  | .local _ .vmem, ⟨6, _⟩ => ⟨S512x512, .f32⟩
  | .local _ .vmem, ⟨7, _⟩ => ⟨S512x512, .bf16⟩
  | .local _ .vmem, ⟨8, _⟩ => ⟨S448x512, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v9 : BitVec 32 := Scalar.xori v2 c1_i32_2
  let c1_i32_4 : BitVec 32 := 1#32
  let v10 : BitVec 32 := Scalar.muli v9 c1_i32_4
  let v11 : BitVec 32 := Scalar.addi c0_i32 v10
  v11.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v12 : BitVec 32 := Scalar.xori v2 c2_i32
  let c1_i32_6 : BitVec 32 := 1#32
  let v13 : BitVec 32 := Scalar.muli v12 c1_i32_6
  let v14 : BitVec 32 := Scalar.addi c0_i32_7 v13
  v14.toNat
def k0_dev3 (d0 : Dev nD) : Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v15 : BitVec 32 := Scalar.xori v2 c3_i32
  let c1_i32_9 : BitVec 32 := 1#32
  let v16 : BitVec 32 := Scalar.muli v15 c1_i32_9
  let v17 : BitVec 32 := Scalar.addi c0_i32_10 v16
  v17.toNat
def k0_dev4 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v18 : BitVec 32 := Scalar.xori v2 c4_i32
  let c1_i32_12 : BitVec 32 := 1#32
  let v19 : BitVec 32 := Scalar.muli v18 c1_i32_12
  let v20 : BitVec 32 := Scalar.addi c0_i32_13 v19
  v20.toNat
def k0_dev5 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v21 : BitVec 32 := Scalar.xori v2 c5_i32
  let c1_i32_15 : BitVec 32 := 1#32
  let v22 : BitVec 32 := Scalar.muli v21 c1_i32_15
  let v23 : BitVec 32 := Scalar.addi c0_i32_16 v22
  v23.toNat
def k0_dev6 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_17 : BitVec 32 := 6#32
  let v24 : BitVec 32 := Scalar.xori v2 c6_i32_17
  let c1_i32_19 : BitVec 32 := 1#32
  let v25 : BitVec 32 := Scalar.muli v24 c1_i32_19
  let v26 : BitVec 32 := Scalar.addi c0_i32_20 v25
  v26.toNat
def k0_dev7 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v27 : BitVec 32 := Scalar.xori v2 c7_i32
  let c1_i32_22 : BitVec 32 := 1#32
  let v28 : BitVec 32 := Scalar.muli v27 c1_i32_22
  let v29 : BitVec 32 := Scalar.addi c0_i32_23 v28
  v29.toNat
def k0_off1 (d0 : Dev nD) : Fin 2 → Nat :=
  let c0_27 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v34 : BitVec 32 := Scalar.muli v2 c256_i32
  let v35 : Index := Scalar.indexCast v34
  ![0, v35.toNat]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_90 : BitVec 32 := 256#32
  let v248 : BitVec 32 := Scalar.muli v2 c256_i32_90
  let v249 : Index := Scalar.indexCast v248
  let c0_91 : Index := 0#32
  ![v249.toNat, 0]
def k0_off3 (d0 : Dev nD) (c0_i32_95 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v3 : BitVec 32 := Scalar.andi v2 c6_i32
  let c1_i32_0 : BitVec 32 := 1#32
  let v4 : BitVec 32 := Scalar.shrsi v2 c1_i32_0
  let v5 : BitVec 32 := Scalar.xori v2 v4
  let c1_i32_1 : BitVec 32 := 1#32
  let v6 : BitVec 32 := Scalar.andi v5 c1_i32_1
  let v7 : BitVec 32 := Scalar.ori v3 v6
  let v258 : BitVec 32 := Scalar.xori v7 c0_i32_95
  let c64_i32_96 : BitVec 32 := 64#32
  let v259 : BitVec 32 := Scalar.muli v258 c64_i32_96
  let v260 : Index := Scalar.indexCast v259
  let c0_97 : Index := 0#32
  ![v260.toNat, 0]
def k0_dev8 (d0 : Dev nD) : Nat :=
  let c0_i32_138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_128 : BitVec 32 := 1#32
  let v322 : BitVec 32 := Scalar.xori v2 c1_i32_128
  let c1_i32_137 : BitVec 32 := 1#32
  let v329 : BitVec 32 := Scalar.muli v322 c1_i32_137
  let v330 : BitVec 32 := Scalar.addi c0_i32_138 v329
  v330.toNat
def k0_dev9 (d0 : Dev nD) : Nat :=
  let c0_i32_146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_129 : BitVec 32 := 2#32
  let v323 : BitVec 32 := Scalar.xori v2 c2_i32_129
  let c1_i32_145 : BitVec 32 := 1#32
  let v337 : BitVec 32 := Scalar.muli v323 c1_i32_145
  let v338 : BitVec 32 := Scalar.addi c0_i32_146 v337
  v338.toNat
def k0_dev10 (d0 : Dev nD) : Nat :=
  let c0_i32_153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_130 : BitVec 32 := 3#32
  let v324 : BitVec 32 := Scalar.xori v2 c3_i32_130
  let c1_i32_152 : BitVec 32 := 1#32
  let v345 : BitVec 32 := Scalar.muli v324 c1_i32_152
  let v346 : BitVec 32 := Scalar.addi c0_i32_153 v345
  v346.toNat
def k0_dev11 (d0 : Dev nD) : Nat :=
  let c0_i32_160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_131 : BitVec 32 := 4#32
  let v325 : BitVec 32 := Scalar.xori v2 c4_i32_131
  let c1_i32_159 : BitVec 32 := 1#32
  let v353 : BitVec 32 := Scalar.muli v325 c1_i32_159
  let v354 : BitVec 32 := Scalar.addi c0_i32_160 v353
  v354.toNat
def k0_dev12 (d0 : Dev nD) : Nat :=
  let c0_i32_168 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_132 : BitVec 32 := 5#32
  let v326 : BitVec 32 := Scalar.xori v2 c5_i32_132
  let c1_i32_167 : BitVec 32 := 1#32
  let v361 : BitVec 32 := Scalar.muli v326 c1_i32_167
  let v362 : BitVec 32 := Scalar.addi c0_i32_168 v361
  v362.toNat
def k0_dev13 (d0 : Dev nD) : Nat :=
  let c0_i32_175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_133 : BitVec 32 := 6#32
  let v327 : BitVec 32 := Scalar.xori v2 c6_i32_133
  let c1_i32_174 : BitVec 32 := 1#32
  let v369 : BitVec 32 := Scalar.muli v327 c1_i32_174
  let v370 : BitVec 32 := Scalar.addi c0_i32_175 v369
  v370.toNat
def k0_dev14 (d0 : Dev nD) : Nat :=
  let c0_i32_182 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_134 : BitVec 32 := 7#32
  let v328 : BitVec 32 := Scalar.xori v2 c7_i32_134
  let c1_i32_181 : BitVec 32 := 1#32
  let v377 : BitVec 32 := Scalar.muli v328 c1_i32_181
  let v378 : BitVec 32 := Scalar.addi c0_i32_182 v377
  v378.toNat
def k0_dev15 (d0 : Dev nD) : Nat :=
  let c0_i32_319 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_309 : BitVec 32 := 1#32
  let v482 : BitVec 32 := Scalar.xori v2 c1_i32_309
  let c1_i32_318 : BitVec 32 := 1#32
  let v489 : BitVec 32 := Scalar.muli v482 c1_i32_318
  let v490 : BitVec 32 := Scalar.addi c0_i32_319 v489
  v490.toNat
def k0_dev16 (d0 : Dev nD) : Nat :=
  let c0_i32_327 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_310 : BitVec 32 := 2#32
  let v483 : BitVec 32 := Scalar.xori v2 c2_i32_310
  let c1_i32_326 : BitVec 32 := 1#32
  let v497 : BitVec 32 := Scalar.muli v483 c1_i32_326
  let v498 : BitVec 32 := Scalar.addi c0_i32_327 v497
  v498.toNat
def k0_dev17 (d0 : Dev nD) : Nat :=
  let c0_i32_334 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_311 : BitVec 32 := 3#32
  let v484 : BitVec 32 := Scalar.xori v2 c3_i32_311
  let c1_i32_333 : BitVec 32 := 1#32
  let v505 : BitVec 32 := Scalar.muli v484 c1_i32_333
  let v506 : BitVec 32 := Scalar.addi c0_i32_334 v505
  v506.toNat
def k0_dev18 (d0 : Dev nD) : Nat :=
  let c0_i32_341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_312 : BitVec 32 := 4#32
  let v485 : BitVec 32 := Scalar.xori v2 c4_i32_312
  let c1_i32_340 : BitVec 32 := 1#32
  let v513 : BitVec 32 := Scalar.muli v485 c1_i32_340
  let v514 : BitVec 32 := Scalar.addi c0_i32_341 v513
  v514.toNat
def k0_dev19 (d0 : Dev nD) : Nat :=
  let c0_i32_348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_313 : BitVec 32 := 5#32
  let v486 : BitVec 32 := Scalar.xori v2 c5_i32_313
  let c1_i32_347 : BitVec 32 := 1#32
  let v521 : BitVec 32 := Scalar.muli v486 c1_i32_347
  let v522 : BitVec 32 := Scalar.addi c0_i32_348 v521
  v522.toNat
def k0_dev20 (d0 : Dev nD) : Nat :=
  let c0_i32_355 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_314 : BitVec 32 := 6#32
  let v487 : BitVec 32 := Scalar.xori v2 c6_i32_314
  let c1_i32_354 : BitVec 32 := 1#32
  let v529 : BitVec 32 := Scalar.muli v487 c1_i32_354
  let v530 : BitVec 32 := Scalar.addi c0_i32_355 v529
  v530.toNat
def k0_dev21 (d0 : Dev nD) : Nat :=
  let c0_i32_362 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_315 : BitVec 32 := 7#32
  let v488 : BitVec 32 := Scalar.xori v2 c7_i32_315
  let c1_i32_361 : BitVec 32 := 1#32
  let v537 : BitVec 32 := Scalar.muli v488 c1_i32_361
  let v538 : BitVec 32 := Scalar.addi c0_i32_362 v537
  v538.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v3 : BitVec 32 := Scalar.andi v2 c6_i32
  let c1_i32_0 : BitVec 32 := 1#32
  let v4 : BitVec 32 := Scalar.shrsi v2 c1_i32_0
  let v5 : BitVec 32 := Scalar.xori v2 v4
  let c1_i32_1 : BitVec 32 := 1#32
  let v6 : BitVec 32 := Scalar.andi v5 c1_i32_1
  let v7 : BitVec 32 := Scalar.ori v3 v6
  let c64_i32_369 : BitVec 32 := 64#32
  let v547 : BitVec 32 := Scalar.muli v7 c64_i32_369
  let v548 : Index := Scalar.indexCast v547
  let c0_370 : Index := 0#32
  ![v548.toNat, 0]
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x512 : Shape := ⟨3, ![2, 256, 512]⟩
abbrev S512x2048 : Shape := ⟨2, ![512, 2048]⟩
abbrev S2x256x32x64 : Shape := ⟨4, ![2, 256, 32, 64]⟩
abbrev S2048x512 : Shape := ⟨2, ![2048, 512]⟩
abbrev S2x256x2048 : Shape := ⟨3, ![2, 256, 2048]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S2x32x256x256 : Shape := ⟨4, ![2, 32, 256, 256]⟩
abbrev S1x1x256x256 : Shape := ⟨4, ![1, 1, 256, 256]⟩
abbrev S2x32x256 : Shape := ⟨3, ![2, 32, 256]⟩
abbrev S2x32x256x1 : Shape := ⟨4, ![2, 32, 256, 1]⟩
abbrev S1x1x256x1 : Shape := ⟨4, ![1, 1, 256, 1]⟩
abbrev S2x32x64x256 : Shape := ⟨4, ![2, 32, 64, 256]⟩
abbrev S512x512 : Shape := ⟨2, ![512, 512]⟩

abbrev nBuf : Space → Nat
  | .hbm => 124
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S512x2048, .f32⟩
  | .hbm, ⟨2, _⟩ => ⟨S2x256x32x64, .f32⟩
  | .hbm, ⟨3, _⟩ => ⟨S2x256x32x64, .f32⟩
  | .hbm, ⟨4, _⟩ => ⟨S2048x512, .f32⟩
  | .hbm, ⟨5, _⟩ => ⟨S2x256x2048, .f32⟩
  | .hbm, ⟨6, _⟩ => ⟨S2x256x32x64, .f32⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S256, .i32⟩
  | .hbm, ⟨28, _⟩ => ⟨S_, .i32⟩
  | .hbm, ⟨29, _⟩ => ⟨S_, .i32⟩
  | .hbm, ⟨30, _⟩ => ⟨S256, .i32⟩
  | .hbm, ⟨31, _⟩ => ⟨S256, .i32⟩
  | .hbm, ⟨32, _⟩ => ⟨S256, .i32⟩
  | .hbm, ⟨33, _⟩ => ⟨S_, .i32⟩
  | .hbm, ⟨34, _⟩ => ⟨S256, .i32⟩
  | .hbm, ⟨35, _⟩ => ⟨S256, .i1⟩
  | .hbm, ⟨36, _⟩ => ⟨S256, .i32⟩
  | .hbm, ⟨37, _⟩ => ⟨S256, .i32⟩
  | .hbm, ⟨38, _⟩ => ⟨S_, .i32⟩
  | .hbm, ⟨39, _⟩ => ⟨S256, .i32⟩
  | .hbm, ⟨40, _⟩ => ⟨S256, .i1⟩
  | .hbm, ⟨41, _⟩ => ⟨S256, .i1⟩
  | .hbm, ⟨42, _⟩ => ⟨S_, .i32⟩
  | .hbm, ⟨43, _⟩ => ⟨S256, .i32⟩
  | .hbm, ⟨44, _⟩ => ⟨S256, .i32⟩
  | .hbm, ⟨45, _⟩ => ⟨S256, .i32⟩
  | .hbm, ⟨46, _⟩ => ⟨S1x256, .i32⟩
  | .hbm, ⟨47, _⟩ => ⟨S256x256, .i32⟩
  | .hbm, ⟨48, _⟩ => ⟨S256x256, .i32⟩
  | .hbm, ⟨49, _⟩ => ⟨S256x256, .i1⟩
  | .hbm, ⟨50, _⟩ => ⟨S_, .i32⟩
  | .hbm, ⟨51, _⟩ => ⟨S1x256, .i32⟩
  | .hbm, ⟨52, _⟩ => ⟨S1x256, .i1⟩
  | .hbm, ⟨53, _⟩ => ⟨S256x256, .i1⟩
  | .hbm, ⟨54, _⟩ => ⟨S256x256, .i1⟩
  | .hbm, ⟨55, _⟩ => ⟨S256x256, .i32⟩
  | .hbm, ⟨56, _⟩ => ⟨S256x256, .i32⟩
  | .hbm, ⟨57, _⟩ => ⟨S256x256, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S256x256, .i32⟩
  | .hbm, ⟨65, _⟩ => ⟨S256x256, .i32⟩
  | .hbm, ⟨66, _⟩ => ⟨S_, .i32⟩
  | .hbm, ⟨67, _⟩ => ⟨S256x256, .i32⟩
  | .hbm, ⟨68, _⟩ => ⟨S256x256, .i1⟩
  | .hbm, ⟨69, _⟩ => ⟨S_, .i32⟩
  | .hbm, ⟨70, _⟩ => ⟨S256x256, .i32⟩
  | .hbm, ⟨71, _⟩ => ⟨S256x256, .i1⟩
  | .hbm, ⟨72, _⟩ => ⟨S_, .i32⟩
  | .hbm, ⟨73, _⟩ => ⟨S_, .i1⟩
  | .hbm, ⟨74, _⟩ => ⟨S256x256, .i1⟩
  | .hbm, ⟨75, _⟩ => ⟨S256x256, .i1⟩
  | .hbm, ⟨76, _⟩ => ⟨S256x256, .i1⟩
  | .hbm, ⟨77, _⟩ => ⟨S256x256, .i32⟩
  | .hbm, ⟨78, _⟩ => ⟨S256x256, .i32⟩
  | .hbm, ⟨79, _⟩ => ⟨S256x256, .i32⟩
  | .hbm, ⟨80, _⟩ => ⟨S_, .i32⟩
  | .hbm, ⟨81, _⟩ => ⟨S256x256, .i32⟩
  | .hbm, ⟨82, _⟩ => ⟨S256x256, .i1⟩
  | .hbm, ⟨83, _⟩ => ⟨S256x256, .i1⟩
  | .hbm, ⟨84, _⟩ => ⟨S2x32x256x256, .f32⟩
  | .hbm, ⟨85, _⟩ => ⟨S_, .f32⟩
  | .hbm, ⟨86, _⟩ => ⟨S2x32x256x256, .f32⟩
  | .hbm, ⟨87, _⟩ => ⟨S2x32x256x256, .f32⟩
  | .hbm, ⟨88, _⟩ => ⟨S1x1x256x256, .i1⟩
  | .hbm, ⟨89, _⟩ => ⟨S_, .f32⟩
  | .hbm, ⟨90, _⟩ => ⟨S_, .f32⟩
  | .hbm, ⟨91, _⟩ => ⟨S2x32x256x256, .i1⟩
  | .hbm, ⟨92, _⟩ => ⟨S2x32x256x256, .f32⟩
  | .hbm, ⟨93, _⟩ => ⟨S2x32x256x256, .f32⟩
  | .hbm, ⟨94, _⟩ => ⟨S_, .f32⟩
  | .hbm, ⟨95, _⟩ => ⟨S2x32x256, .f32⟩
  | .hbm, ⟨96, _⟩ => ⟨S2x32x256x1, .f32⟩
  | .hbm, ⟨97, _⟩ => ⟨S2x32x256x256, .f32⟩
  | .hbm, ⟨98, _⟩ => ⟨S2x32x256x256, .f32⟩
  | .hbm, ⟨99, _⟩ => ⟨S2x32x256x256, .f32⟩
  | .hbm, ⟨100, _⟩ => ⟨S_, .i1⟩
  | .hbm, ⟨101, _⟩ => ⟨S256, .i1⟩
  | .hbm, ⟨102, _⟩ => ⟨S1x1x256x1, .i1⟩
  | .hbm, ⟨103, _⟩ => ⟨S_, .f32⟩
  | .hbm, ⟨104, _⟩ => ⟨S2x32x256, .f32⟩
  | .hbm, ⟨105, _⟩ => ⟨S2x32x256x1, .f32⟩
  | .hbm, ⟨106, _⟩ => ⟨S_, .f32⟩
  | .hbm, ⟨107, _⟩ => ⟨S_, .f32⟩
  | .hbm, ⟨108, _⟩ => ⟨S2x32x256x1, .i1⟩
  | .hbm, ⟨109, _⟩ => ⟨S2x32x256x1, .f32⟩
  | .hbm, ⟨110, _⟩ => ⟨S2x32x256x1, .f32⟩
  | .hbm, ⟨111, _⟩ => ⟨S2x32x256x256, .f32⟩
  | .hbm, ⟨112, _⟩ => ⟨S2x32x256x256, .f32⟩
  | .hbm, ⟨113, _⟩ => ⟨S1x1x256x1, .i1⟩
  | .hbm, ⟨114, _⟩ => ⟨S_, .f32⟩
  | .hbm, ⟨115, _⟩ => ⟨S_, .f32⟩
  | .hbm, ⟨116, _⟩ => ⟨S2x32x256x256, .i1⟩
  | .hbm, ⟨117, _⟩ => ⟨S2x32x256x256, .f32⟩
  | .hbm, ⟨118, _⟩ => ⟨S2x32x256x256, .f32⟩
  | .hbm, ⟨119, _⟩ => ⟨S2x32x64x256, .f32⟩
  | .hbm, ⟨120, _⟩ => ⟨S2x256x32x64, .f32⟩
  | .hbm, ⟨121, _⟩ => ⟨S2x256x2048, .f32⟩
  | .hbm, ⟨122, _⟩ => ⟨S2x256x512, .f32⟩
  | .hbm, ⟨123, _⟩ => ⟨S512x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩

abbrev nD : Nat := 1
abbrev τ : Topo := Topo.v7x

variable {F : FTy → Type} [FloatOps F]
-- ==== Proof.KernelIdeal.Tables.lean ====
/-
# The mesh, the buffers and the cells of the exchange, and what each buffer holds

Eight devices. A device's PARTNER under mask `m` (`m : Fin 7`, the mask being `m + 1`) is the device whose number is the
exclusive or of the two; partners are mutual. The kernel cuts its 512 rows into eight chunks of 64 and gives a chunk the
SLOT `s` when its number is `vr c` xor `s`: slot 0 is the device's own chunk, slot `slot m` its `m`-th partner's.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.MemrefSat
public import Idealize.ShloMosaic.Lib.Tactic

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Partners and slots -/

set_option backward.proofsInPublic true in
/-- The partner of device `c` under mask `m + 1`. -/
def peer (m : Fin 7) (c : Dev nD) : Dev nD := ⟨(c.val ^^^ (m.val + 1)) % 8, Nat.mod_lt _ (by decide)⟩

/-- The slot, in a device's slotted buffer, of the chunk its `m`-th partner owns. -/
def slot : Fin 7 → Fin 8 := ![1, 3, 2, 4, 5, 7, 6]

set_option backward.proofsInPublic true in
/-- The chunk a device owns: the number of its position along the ring the chunks are laid out on. -/
def vr (c : Dev nD) : Fin 8 := ⟨((c.val &&& 6) ||| ((c.val ^^^ (c.val >>> 1)) &&& 1)) % 8, Nat.mod_lt _ (by decide)⟩

/-- The device that owns a chunk (`vr` is its own inverse). -/
def owner (k : Fin 8) : Dev nD := vr k

set_option backward.proofsInPublic true in
/-- The chunk of device `c` in slot `s`. -/
def chunk (c : Dev nD) (s : Fin 8) : Fin 8 := ⟨((vr c).val ^^^ s.val) % 8, Nat.mod_lt _ (by decide)⟩

theorem peer_peer (m : Fin 7) (c : Dev nD) : peer m (peer m c) = c := by revert m c; decide
theorem owner_vr (c : Dev nD) : owner (vr c) = c := by revert c; decide
theorem chunk_zero (c : Dev nD) : chunk c 0 = vr c := by revert c; decide
/-- A device's slot for its partner holds the partner's own chunk. -/
theorem chunk_slot (m : Fin 7) (c : Dev nD) : chunk c (slot m) = vr (peer m c) := by revert m c; decide
theorem chunk_injective (c : Dev nD) : Function.Injective (chunk c) := by revert c; decide
theorem chunk_surjective (c : Dev nD) : Function.Surjective (chunk c) := by revert c; decide
theorem slot_ne_zero (m : Fin 7) : slot m ≠ 0 := by revert m; decide

/-- Partners under one mask, as a permutation of the devices. -/
def swap (m : Fin 7) : Dev nD ≃ Dev nD := ⟨peer m, peer m, peer_peer m, peer_peer m⟩

/-- The devices the seven signals name, -/
theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer 3 c := by revert c; decide +kernel
theorem dev5_eq (c : Dev nD) : (⟨k0_dev5 c, k0_dev5_lt c⟩ : Dev nD) = peer 4 c := by revert c; decide +kernel
theorem dev6_eq (c : Dev nD) : (⟨k0_dev6 c, k0_dev6_lt c⟩ : Dev nD) = peer 5 c := by revert c; decide +kernel
theorem dev7_eq (c : Dev nD) : (⟨k0_dev7 c, k0_dev7_lt c⟩ : Dev nD) = peer 6 c := by revert c; decide +kernel
/-- the devices the seven copies of the first half go to, -/
theorem dev8_eq (c : Dev nD) : (⟨k0_dev8 c, k0_dev8_lt c⟩ : Dev nD) = peer 0 c := by revert c; decide +kernel
theorem dev9_eq (c : Dev nD) : (⟨k0_dev9 c, k0_dev9_lt c⟩ : Dev nD) = peer 1 c := by revert c; decide +kernel
theorem dev10_eq (c : Dev nD) : (⟨k0_dev10 c, k0_dev10_lt c⟩ : Dev nD) = peer 2 c := by revert c; decide +kernel
theorem dev11_eq (c : Dev nD) : (⟨k0_dev11 c, k0_dev11_lt c⟩ : Dev nD) = peer 3 c := by revert c; decide +kernel
theorem dev12_eq (c : Dev nD) : (⟨k0_dev12 c, k0_dev12_lt c⟩ : Dev nD) = peer 4 c := by revert c; decide +kernel
theorem dev13_eq (c : Dev nD) : (⟨k0_dev13 c, k0_dev13_lt c⟩ : Dev nD) = peer 5 c := by revert c; decide +kernel
theorem dev14_eq (c : Dev nD) : (⟨k0_dev14 c, k0_dev14_lt c⟩ : Dev nD) = peer 6 c := by revert c; decide +kernel
/-- and those of the second half. -/
theorem dev15_eq (c : Dev nD) : (⟨k0_dev15 c, k0_dev15_lt c⟩ : Dev nD) = peer 0 c := by revert c; decide +kernel
theorem dev16_eq (c : Dev nD) : (⟨k0_dev16 c, k0_dev16_lt c⟩ : Dev nD) = peer 1 c := by revert c; decide +kernel
theorem dev17_eq (c : Dev nD) : (⟨k0_dev17 c, k0_dev17_lt c⟩ : Dev nD) = peer 2 c := by revert c; decide +kernel
theorem dev18_eq (c : Dev nD) : (⟨k0_dev18 c, k0_dev18_lt c⟩ : Dev nD) = peer 3 c := by revert c; decide +kernel
theorem dev19_eq (c : Dev nD) : (⟨k0_dev19 c, k0_dev19_lt c⟩ : Dev nD) = peer 4 c := by revert c; decide +kernel
theorem dev20_eq (c : Dev nD) : (⟨k0_dev20 c, k0_dev20_lt c⟩ : Dev nD) = peer 5 c := by revert c; decide +kernel
theorem dev21_eq (c : Dev nD) : (⟨k0_dev21 c, k0_dev21_lt c⟩ : Dev nD) = peer 6 c := by revert c; decide +kernel

/-! ## The buffers -/

abbrev xM : Memref sig .tc .vmem S2x256x512 .f32 := Memref.whole cc0_stg0_0
abbrev wqM : Memref sig .tc .vmem S512x2048 .f32 := Memref.whole cc0_stg1_0
abbrev kM : Memref sig .tc .vmem S2x256x4x64 .f32 := Memref.whole cc0_stg2_0
abbrev vM : Memref sig .tc .vmem S2x256x4x64 .f32 := Memref.whole cc0_stg3_0
abbrev woM : Memref sig .tc .vmem S2048x512 .f32 := Memref.whole cc0_stg4_0
abbrev oM : Memref sig .tc .vmem S512x512 .f32 := Memref.whole cc0_stg5_0
abbrev pM : Memref sig .tc .vmem S512x512 .f32 := Memref.whole cc0_scratch0
abbrev cM : Memref sig .tc .vmem S512x512 .bf16 := Memref.whole cc0_scratch1
abbrev gM : Memref sig .tc .vmem S448x512 .bf16 := Memref.whole cc0_scratch2

theorem slotRow_inb (s : Fin 8) : ∀ a, (![64 * s.val, 0] : Fin 2 → Nat) a + S64x512.size a ≤ S512x512.size a := by
  revert s; decide
theorem stageRow_inb (m : Fin 7) : ∀ a, (![64 * m.val, 0] : Fin 2 → Nat) a + S64x512.size a ≤ S448x512.size a := by
  revert m; decide

/-- Slot `s` of the slotted buffer, -/
abbrev cR (s : Fin 8) : Rect S512x512 := Rect.unit (s := S512x512) ![64 * s.val, 0] S64x512.size (slotRow_inb s)
/-- place `m` of the landing buffer, -/
abbrev gR (m : Fin 7) : Rect S448x512 := Rect.unit (s := S448x512) ![64 * m.val, 0] S64x512.size (stageRow_inb m)
/-- and the rows of chunk `chunk c s`, as the kernel computes where they start. -/
abbrev oR (c : Dev nD) (s : Fin 8) : Rect S512x512 :=
  Rect.unit (s := S512x512) (k0_off3 c (BitVec.ofNat 32 s.val)) S64x512.size (k0_off3_inb c s)

abbrev cC (s : Fin 8) : Memref sig .tc .vmem S64x512 .bf16 := cM.slice (cR s) (fun _ => rfl)
abbrev gC (m : Fin 7) : Memref sig .tc .vmem S64x512 .bf16 := gM.slice (gR m) (fun _ => rfl)
abbrev oC (c : Dev nD) (s : Fin 8) : Memref sig .tc .vmem S64x512 .f32 := oM.slice (oR c s) (fun _ => rfl)

theorem off3_eq (c : Dev nD) (s : Fin 8) : k0_off3 c (BitVec.ofNat 32 s.val) = ![64 * (chunk c s).val, 0] := by
  revert c s; decide +kernel
theorem off4_eq (c : Dev nD) : k0_off4 c = k0_off3 c (BitVec.ofNat 32 (0 : Fin 8).val) := by
  revert c; decide +kernel

/-! ## The cells -/

/-- The runtime's barrier semaphore. -/
abbrev barS : Sem sig := (SemArray.scalar (sig.barrier 0 rfl) : Sems sig S_).sem
set_option backward.proofsInPublic true in
/-- The kernel's 28 copy semaphores: kind 0 sends of the first half, 1 sends of the second, 2 receives of the first,
    3 receives of the second. -/
abbrev dmaS (k : Fin 4) (m : Fin 7) : DmaSem sig := ⟨6 + 7 * k.val + m.val, by have := k.isLt; have := m.isLt; show _ < 34; omega⟩

abbrev barCell (c : Dev nD) : GSem nD τ sig := ((c : Thread nD τ), .reg barS)
abbrev dmaCell (c : Dev nD) (k : Fin 4) (m : Fin 7) : GSem nD τ sig := ((c : Thread nD τ), .dma (dmaS k m))

/-- The kernel's own (scoped) semaphores, -/
abbrev osem : Fin 4 × Fin 7 → SemLoc sig := fun km => .dma (dmaS km.1 km.2)
/-- and all of the exchange's: the barrier and those. -/
abbrev CellIx : Type := Unit ⊕ (Fin 4 × Fin 7)
abbrev csem : CellIx → SemLoc sig
  | .inl _ => .reg barS
  | .inr km => osem km
abbrev kcell (ci : Dev nD × CellIx) : GSem nD τ sig := ((ci.1 : Thread nD τ), csem ci.2)

theorem osem_injective : Function.Injective osem := by decide
theorem csem_injective : Function.Injective csem := by
  rintro (u | a) (v | b) h
  · rfl
  · cases h
  · cases h
  · exact congrArg _ (osem_injective h)

/-- What one chunk's copy credits. -/
abbrev N : ℕ := (cC 0 : Memref sig .tc .vmem S64x512 .bf16).view.dmaCredit
theorem N_pos : 0 < N := View.dmaCredit_pos _ (by decide)
theorem credit_c (s : Fin 8) : (cC s).view.dmaCredit = N := rfl
theorem credit_g (m : Fin 7) : (gC m).view.dmaCredit = N := rfl

/-! ## Contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `c`'s staged operands. -/
def xstg (c : Dev nD) : (cc0_stg0_0 : Ref sig .tc).ty.Contents (Elt F) :=
  (win0_0.blk (0 : Fin 1)).view.read (Elt F) ((s₀ m ρ).mem ((c : Thread nD τ).loc main_arg0))
def wqstg (c : Dev nD) : (cc0_stg1_0 : Ref sig .tc).ty.Contents (Elt F) :=
  (win0_1.blk (0 : Fin 1)).view.read (Elt F) ((s₀ m ρ).mem ((c : Thread nD τ).loc main_arg1))
def kstg (c : Dev nD) : (cc0_stg2_0 : Ref sig .tc).ty.Contents (Elt F) :=
  (win0_2.blk (0 : Fin 1)).view.read (Elt F) ((s₀ m ρ).mem ((c : Thread nD τ).loc main_arg2))
def vstg (c : Dev nD) : (cc0_stg3_0 : Ref sig .tc).ty.Contents (Elt F) :=
  (win0_3.blk (0 : Fin 1)).view.read (Elt F) ((s₀ m ρ).mem ((c : Thread nD τ).loc main_arg3))
def wostg (c : Dev nD) : (cc0_stg4_0 : Ref sig .tc).ty.Contents (Elt F) :=
  (win0_4.blk (0 : Fin 1)).view.read (Elt F) ((s₀ m ρ).mem ((c : Thread nD τ).loc main_arg4))

abbrev wqR (c : Dev nD) : Rect S512x2048 := Rect.unit (s := S512x2048) (k0_off1 c) S512x256.size (k0_off1_inb c)
abbrev woR (c : Dev nD) : Rect S2048x512 := Rect.unit (s := S2048x512) (k0_off2 c) S256x512.size (k0_off2_inb c)

/-- Device `c`'s block of `Wq` and of `Wo`. -/
def wqblk (c : Dev nD) : Vec F S512x256 .f32 := wqM.view.readAt (Elt F) (wqR c).toLoadRect (wqstg m ρ c)
def woblk (c : Dev nD) : Vec F S256x512 .f32 := woM.view.readAt (Elt F) (woR c).toLoadRect (wostg m ρ c)

/-- The words of the block mask the kernel computes: which keys a query sees. -/
def seen : IVec S256x256 1 :=
  k0_pay14 (k0_pay9 k0_pay3 k0_pay4 k0_pay5 k0_pay6) (Scalar.select (Scalar.cmpi .eq 3#32 0#32) 1#32 3#32)
    (k0_pay10 k0_pay3 k0_pay4 k0_pay5 k0_pay6) (k0_pay11 k0_pay3 k0_pay4 k0_pay5 k0_pay6)
    (k0_pay12 k0_pay3 k0_pay4 k0_pay5 k0_pay6) k0_pay13

/-- Device `c`'s queries; -/
def qv (c : Dev nD) : FVec F S512x256 .bf16 := k0_pay2 (xstg m ρ c) (wqblk m ρ c)
/-- the attention of its four heads over batch 0, -/
def att0 (c : Dev nD) : FVec F S256x256 .f32 :=
  k0_pay20 (qv m ρ c) seen (k0_pay15 (kstg m ρ c)) (k0_pay16 (vstg m ρ c))
    (k0_pay17 (qv m ρ c) (k0_pay9 k0_pay3 k0_pay4 k0_pay5 k0_pay6) (Scalar.select (Scalar.cmpi .eq 3#32 0#32) 1#32 3#32)
      (k0_pay10 k0_pay3 k0_pay4 k0_pay5 k0_pay6) (k0_pay11 k0_pay3 k0_pay4 k0_pay5 k0_pay6)
      (k0_pay12 k0_pay3 k0_pay4 k0_pay5 k0_pay6) k0_pay13 (kstg m ρ c) (vstg m ρ c))
    (k0_pay18 (qv m ρ c) (k0_pay9 k0_pay3 k0_pay4 k0_pay5 k0_pay6) (Scalar.select (Scalar.cmpi .eq 3#32 0#32) 1#32 3#32)
      (k0_pay10 k0_pay3 k0_pay4 k0_pay5 k0_pay6) (k0_pay11 k0_pay3 k0_pay4 k0_pay5 k0_pay6)
      (k0_pay12 k0_pay3 k0_pay4 k0_pay5 k0_pay6) k0_pay13 (kstg m ρ c))
    (k0_pay19 (qv m ρ c) (k0_pay9 k0_pay3 k0_pay4 k0_pay5 k0_pay6) (Scalar.select (Scalar.cmpi .eq 3#32 0#32) 1#32 3#32)
      (k0_pay10 k0_pay3 k0_pay4 k0_pay5 k0_pay6) (k0_pay11 k0_pay3 k0_pay4 k0_pay5 k0_pay6)
      (k0_pay12 k0_pay3 k0_pay4 k0_pay5 k0_pay6) k0_pay13 (kstg m ρ c) (vstg m ρ c))
/-- and over batch 1. -/
def att1 (c : Dev nD) : FVec F S256x256 .f32 :=
  k0_pay24 (qv m ρ c) seen (k0_pay15 (kstg m ρ c)) (k0_pay16 (vstg m ρ c))
    (k0_pay22 (qv m ρ c) seen (k0_pay15 (kstg m ρ c)) (k0_pay16 (vstg m ρ c)))
    (k0_pay23 (qv m ρ c) seen (k0_pay15 (kstg m ρ c)))
/-- Device `c`'s partial result. -/
def psum (c : Dev nD) : FVec F S512x512 .f32 := k0_pay25 (att0 m ρ c) (att1 m ρ c) (woblk m ρ c)

/-- What slot `s` holds before the exchange: the partial result's rows of that slot's chunk, rounded. -/
def part (c : Dev nD) (s : Fin 8) : Vec F S64x512 .bf16 :=
  k0_pay26 (pM.view.readAt (Elt F) (oR c s).toLoadRect (psum m ρ c))

/-- The rows of `c`'s own chunk, summed over the devices in mask order and rounded. -/
def tot (c : Dev nD) : Vec F S64x512 .bf16 :=
  k0_pay38
    (k0_pay37
      (k0_pay36
        (k0_pay35
          (k0_pay34 (part m ρ c 0) (part m ρ (peer 0 c) (slot 0)))
          (part m ρ (peer 1 c) (slot 1)))
        (part m ρ (peer 2 c) (slot 2)) (part m ρ (peer 3 c) (slot 3)))
      (part m ρ (peer 4 c) (slot 4)) (part m ρ (peer 5 c) (slot 5)))
    (part m ρ (peer 6 c) (slot 6))

set_option backward.proofsInPublic true in
/-- The kernel's result, the same on every device: row `i` is row `i % 64` of the sum of chunk `i / 64`. -/
def outAll : Vec F S512x512 .f32 := fun i =>
  k0_pay39 (tot m ρ (owner ⟨(i 0).val / 64, by have : (i 0).val < 512 := (i 0).isLt; omega⟩))
    (fun a => match a with
      | ⟨0, _⟩ => ⟨(i 0).val % 64, Nat.mod_lt _ (by decide)⟩
      | ⟨1, _⟩ => i 1)

/-- On the rows of the chunk in slot `s` it is that chunk's owner's sum. -/
theorem outAll_chunk (c : Dev nD) (s : Fin 8) (j : S64x512.Idx) :
    outAll m ρ ((oR c s).emb j) = k0_pay39 (tot m ρ (owner (chunk c s))) j := by
  have h0 : (((oR c s).emb j) 0).val = 64 * (chunk c s).val + (j 0).val := by
    have := congrFun (off3_eq c s) 0
    show (k0_off3 c (BitVec.ofNat 32 s.val)) 0 + 1 * (j 0).val = _
    rw [this, Nat.one_mul]; rfl
  have h1 : (((oR c s).emb j) 1) = j 1 := by
    apply Fin.ext
    have := congrFun (off3_eq c s) 1
    show (k0_off3 c (BitVec.ofNat 32 s.val)) 1 + 1 * (j 1).val = _
    rw [this, Nat.one_mul]; exact Nat.zero_add _
  have hj : (j 0).val < 64 := (j 0).isLt
  unfold outAll
  have e1 : (⟨(((oR c s).emb j) 0).val / 64, by have : (((oR c s).emb j) 0).val < 512 := (((oR c s).emb j) 0).isLt; omega⟩ : Fin 8) = chunk c s :=
    Fin.ext (by show (((oR c s).emb j) 0).val / 64 = _; rw [h0]; omega)
  rw [e1]
  congr 1
  funext a
  match a with
  | ⟨0, _⟩ => exact Fin.ext (by show (((oR c s).emb j) 0).val % 64 = (j 0).val; rw [h0]; omega)
  | ⟨1, _⟩ => exact h1

/-! ### The chunks tile the buffers -/

theorem mem_unit_rows {R : ℕ} (off : Fin 2 → ℕ) (o : ℕ) (ho : off = ![o, 0]) (h : ∀ a, off a + S64x512.size a ≤ (⟨2, ![R, 512]⟩ : Shape).size a)
    (i : (⟨2, ![R, 512]⟩ : Shape).Idx) :
    i ∈ (Rect.unit (s := ⟨2, ![R, 512]⟩) off S64x512.size h).set ↔ o ≤ (i 0).val ∧ (i 0).val < o + 64 := by
  subst ho
  rw [Rect.mem_set_unit]
  constructor
  · intro H; exact H 0
  · intro H a
    match a with
    | ⟨0, _⟩ => exact H
    | ⟨1, _⟩ => exact ⟨Nat.zero_le _, by have := (i 1).isLt; simpa using this⟩

theorem cR_disjoint (s t : Fin 8) (h : s ≠ t) : Disjoint (cR s).set (cR t).set := by
  rw [Finset.disjoint_left]
  intro i hi hj
  rw [mem_unit_rows _ _ rfl] at hi hj
  exact h (Fin.ext (by omega))
theorem cR_cover : (Finset.univ : Finset (Fin 8)).biUnion (fun s => (cR s).set) = Finset.univ := by
  ext i
  simp only [Finset.mem_biUnion, Finset.mem_univ, true_and, iff_true]
  have hi : (i 0).val < 512 := (i 0).isLt
  refine ⟨⟨(i 0).val / 64, by omega⟩, ?_⟩
  rw [mem_unit_rows _ _ rfl]; dsimp only; omega
theorem gR_disjoint (s t : Fin 7) (h : s ≠ t) : Disjoint (gR s).set (gR t).set := by
  rw [Finset.disjoint_left]
  intro i hi hj
  rw [mem_unit_rows _ _ rfl] at hi hj
  exact h (Fin.ext (by omega))
theorem gR_cover : (Finset.univ : Finset (Fin 7)).biUnion (fun s => (gR s).set) = Finset.univ := by
  ext i
  simp only [Finset.mem_biUnion, Finset.mem_univ, true_and, iff_true]
  have hi : (i 0).val < 448 := (i 0).isLt
  refine ⟨⟨(i 0).val / 64, by omega⟩, ?_⟩
  rw [mem_unit_rows _ _ rfl]; dsimp only; omega
theorem oR_disjoint (c : Dev nD) (s t : Fin 8) (h : s ≠ t) : Disjoint (oR c s).set (oR c t).set := by
  rw [Finset.disjoint_left]
  intro i hi hj
  rw [mem_unit_rows _ _ (off3_eq c s)] at hi
  rw [mem_unit_rows _ _ (off3_eq c t)] at hj
  exact h (chunk_injective c (Fin.ext (by omega)))
theorem oR_cover (c : Dev nD) : (Finset.univ : Finset (Fin 8)).biUnion (fun s => (oR c s).set) = Finset.univ := by
  ext i
  simp only [Finset.mem_biUnion, Finset.mem_univ, true_and, iff_true]
  have hi : (i 0).val < 512 := (i 0).isLt
  obtain ⟨s, hs⟩ := chunk_surjective c ⟨(i 0).val / 64, by omega⟩
  refine ⟨s, ?_⟩
  rw [mem_unit_rows _ _ (off3_eq c s), hs]; dsimp only; omega

end Cert.KernelIdeal.Exchange

end
-- ==== Proof.KernelIdeal.Protocol.lean ====
/-
# The protocol of the exchange: who pays each cell, what a payment hands over, what a device owes and at which levels

Every cell has one round. A device's BARRIER cell has seven duties of one unit, duty `m` paid by its `m`-th partner: with
it the partner hands over place `m` of its own landing buffer, where the device's first copy to it lands. A RECEIVE cell
of the first half is paid by the partner's copy: it hands over the landing place holding the partner's rows of the
device's chunk, and the slot those rows were copied from, which is where the device's second copy to that partner will
land. A RECEIVE cell of the second half hands over the slot holding the partner's summed chunk. A SEND cell of the first
half hands over nothing (the slot went with the landing), one of the second half the share of slot 0 lent to the copy.
-/
module

public import proofs.«01_k».proof.Proof.KernelIdeal.Tables

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the exchange's (duty names `Fin 7`) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The shares of slot 0 lent to the second half's copies -/

/-- What is kept of slot 0 once `n` copies have borrowed their shares, -/
def keep : ℕ → PosShare TreeShare
  | 0 => fullShare
  | n + 1 => (keep n).right
/-- and the share the `n`-th copy borrows. -/
def lend (n : ℕ) : PosShare TreeShare := (keep n).left

/-! ## The schedule -/

/-- What the signal of `c`'s `i`-th partner hands `c`: place `i` of the partner's landing buffer. -/
def barPay (c : Dev nD) (i : Fin 7) : sProp 𝕄 := iprop(∃ X, owns (peer i c : Thread nD τ) (gC i) fullShare X)
/-- What the `i`-th landing of the first half hands `c`: its landing place at the partner's rows of `c`'s chunk, and the
    partner's slot they came from. -/
def rsPay (c : Dev nD) (i : Fin 7) : sProp 𝕄 :=
  iprop(owns (c : Thread nD τ) (gC i) fullShare (part m ρ (peer i c) (slot i))
    ∗ owns (peer i c : Thread nD τ) (cC (slot i)) fullShare (part m ρ (peer i c) (slot i)))
/-- What the `i`-th send of the second half gives back: the share of slot 0 it borrowed. -/
def agBack (c : Dev nD) (i : Fin 7) : sProp 𝕄 := owns (c : Thread nD τ) (cC 0) (lend i.val) (tot m ρ c)
/-- What the `i`-th landing of the second half hands `c`: its slot at the partner's summed chunk. -/
def agPay (c : Dev nD) (i : Fin 7) : sProp 𝕄 := owns (c : Thread nD τ) (cC (slot i)) fullShare (tot m ρ (peer i c))

/-- The payload of a copy cell of kind `k`. -/
def dmaPay (c : Dev nD) (i : Fin 7) : ℕ → sProp 𝕄
  | 0 => iprop(emp)
  | 1 => agBack m ρ c i
  | 2 => rsPay m ρ c i
  | _ => agPay m ρ c i

set_option backward.proofsInPublic true in
/-- The kind and the mask a copy semaphore's number encodes. -/
def maskOf (q : DmaSem sig) : Fin 7 := ⟨(q.val - 6) % 7, Nat.mod_lt _ (by decide)⟩
def kindOf (q : DmaSem sig) : ℕ := (q.val - 6) / 7
theorem maskOf_dmaS (k : Fin 4) (i : Fin 7) : maskOf (dmaS k i) = i := by revert k i; decide
theorem kindOf_dmaS (k : Fin 4) (i : Fin 7) : kindOf (dmaS k i) = k.val := by revert k i; decide

def dutiesOf : SemLoc sig → Finset (Fin 7)
  | .reg s => if s = barS then Finset.univ else ∅
  | .dma q => if 6 ≤ q.val then {0} else ∅
def payOf (c : Dev nD) (d : Fin 7) : SemLoc sig → sProp 𝕄
  | .reg _ => barPay c d
  | .dma q => dmaPay m ρ c (maskOf q) (kindOf q)
def amountOf : SemLoc sig → ℕ
  | .reg _ => 1
  | .dma _ => N

/-- One round, round 0: a barrier cell has seven duties of one unit, a copy cell the duty `0` of a chunk's credit. -/
def sched : Rounds.Schedule (GSem nD τ sig) (Fin 7) 𝕄 where
  duties g r := if r = 0 ∧ g.1.2 = .tc then dutiesOf g.2 else ∅
  unitless _ := False
  amount g _ _ := amountOf g.2
  payload g _ d := payOf m ρ g.1.1 d g.2
  amount_pos g _ _ _ := by
    rcases g with ⟨t, s | q⟩
    · exact Nat.one_pos
    · exact N_pos

omit [FloatOps F] in
instance barPay_storable (c : Dev nD) (i : Fin 7) : BI.Storable (upEmb : UEmb _ 𝕄) (barPay (F := F) c i) := by
  unfold barPay; infer_instance
instance rsPay_storable (c : Dev nD) (i : Fin 7) : BI.Storable (upEmb : UEmb _ 𝕄) (rsPay (F := F) m ρ c i) := by
  unfold rsPay; infer_instance
instance agBack_storable (c : Dev nD) (i : Fin 7) : BI.Storable (upEmb : UEmb _ 𝕄) (agBack (F := F) m ρ c i) := by
  unfold agBack; infer_instance
instance agPay_storable (c : Dev nD) (i : Fin 7) : BI.Storable (upEmb : UEmb _ 𝕄) (agPay (F := F) m ρ c i) := by
  unfold agPay; infer_instance
instance dmaPay_storable (c : Dev nD) (i : Fin 7) (k : ℕ) : BI.Storable (upEmb : UEmb _ 𝕄) (dmaPay (F := F) m ρ c i k) := by
  match k with
  | 0 => exact (inferInstance : BI.Storable (upEmb : UEmb _ 𝕄) iprop(emp))
  | 1 => exact agBack_storable m ρ c i
  | 2 => exact rsPay_storable m ρ c i
  | _ + 3 => exact agPay_storable m ρ c i

instance sched_payload_storable (g : GSem nD τ sig) (r : ℕ) (d : Fin 7) :
    BI.Storable (upEmb : UEmb _ 𝕄) ((sched (F := F) m ρ).payload g r d) := by
  rcases g with ⟨t, s | q⟩
  · exact barPay_storable t.1 d
  · exact dmaPay_storable m ρ t.1 (maskOf q) (kindOf q)

section Sched
variable (c : Dev nD)

theorem duties_bar : (sched (F := F) m ρ).duties (barCell c) 0 = Finset.univ := by
  dsimp only [sched]; rw [if_pos ⟨rfl, rfl⟩]; show (if barS = barS then Finset.univ else ∅) = _; rw [if_pos rfl]
theorem duties_dma (k : Fin 4) (i : Fin 7) : (sched (F := F) m ρ).duties (dmaCell c k i) 0 = {0} := by
  dsimp only [sched]; rw [if_pos ⟨rfl, rfl⟩]
  exact if_pos (show 6 ≤ 6 + 7 * k.val + i.val by omega)
theorem duties_later (g : GSem nD τ sig) : ∀ r, 1 ≤ r → (sched (F := F) m ρ).duties g r = ∅ :=
  fun r hr => by dsimp only [sched]; exact if_neg fun h => by omega

theorem amount_bar (d : Fin 7) : (sched (F := F) m ρ).amount (barCell c) 0 d = 1 := rfl
theorem amount_dma (k : Fin 4) (i : Fin 7) (d : Fin 7) : (sched (F := F) m ρ).amount (dmaCell c k i) 0 d = N := rfl

theorem expect_bar : (sched (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
theorem expect_dma (k : Fin 4) (i : Fin 7) : (sched (F := F) m ρ).expect (dmaCell c k i) 0 = N := by
  unfold Schedule.expect Schedule.amountOf; rw [duties_dma, Finset.sum_singleton, amount_dma]

theorem payload_bar (d : Fin 7) : (sched (F := F) m ρ).payload (barCell c) 0 d = barPay c d := rfl
theorem payload_dma (k : Fin 4) (i : Fin 7) (d : Fin 7) :
    (sched (F := F) m ρ).payload (dmaCell c k i) 0 d = dmaPay m ρ c i k.val := by
  show dmaPay m ρ c (maskOf (dmaS k i)) (kindOf (dmaS k i)) = _
  rw [maskOf_dmaS, kindOf_dmaS]

/-- The rest of a barrier cell's round, no duty taken: the seven partners' payloads; -/
theorem rest_bar : bigSep ((sched (F := F) m ρ).duties (barCell c) 0 \ ∅) (fun d => (sched (F := F) m ρ).payload (barCell c) 0 d)
    = iprop(barPay c 0 ∗ barPay c 1 ∗ barPay c 2 ∗ barPay c 3 ∗ barPay c 4 ∗ barPay c 5 ∗ barPay c 6) := by
  rw [Finset.sdiff_empty, duties_bar, bigSep_univ_eq_bigSepL [0, 1, 2, 3, 4, 5, 6] (by decide) (by decide)]; rfl
/-- and of a copy cell's round: its payload. -/
theorem rest_dma (k : Fin 4) (i : Fin 7) :
    bigSep ((sched (F := F) m ρ).duties (dmaCell c k i) 0 \ ∅) (fun d => (sched (F := F) m ρ).payload (dmaCell c k i) 0 d)
      = dmaPay m ρ c i k.val := by
  rw [Finset.sdiff_empty, duties_dma, bigSep_singleton, payload_dma]

end Sched

/-! ## What a device owes, and the levels -/

/-- The payments of device `c` in program order: seven signals, seven copies, seven copies. -/
def debtCell (c : Dev nD) (n : ℕ) : GSem nD τ sig :=
  if h : n < 7 then barCell (peer ⟨n, h⟩ c)
  else if h : n - 7 < 7 then dmaCell (peer ⟨n - 7, h⟩ c) 2 ⟨n - 7, h⟩
  else if h : n - 14 < 7 then dmaCell (peer ⟨n - 14, h⟩ c) 3 ⟨n - 14, h⟩
  else barCell c
def debtAmt (n : ℕ) : ℕ := if n < 7 then 1 else N

/-- What device `c` still owes when its last `n` payments are outstanding. -/
def owed (c : Dev nD) : ℕ → CellTallies nD τ sig Unit
  | 0 => 0
  | n + 1 => owed c n + tallyAt (debtCell c (20 - n)) () (debtAmt (20 - n))

abbrev O₀ (c : Dev nD) : CellTallies nD τ sig Unit := owed c 21

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- barrier cells at 1, receives of the first half at 2, of the second at 3, everything else (staging, sends) at 0. -/
def lvS : SemLoc sig → ℕ
  | .reg _ => 1
  | .dma q => if q.val < 20 then 0 else if q.val < 27 then 2 else 3
def lv (g : GSem nD τ sig) (_ : Unit) : ℕ := lvS g.2

/-- A debt has a cell of the list behind it. -/
theorem owed_pos {c : Dev nD} {n : ℕ} {g : GSem nD τ sig} {u : Unit} (h : 0 < owed c n g u) : ∃ i, i < n ∧ g = debtCell c (20 - i) := by
  induction n with
  | zero => exact absurd h (Nat.lt_irrefl 0)
  | succ n ih =>
    unfold owed at h
    rw [Pi.add_apply, Finsupp.add_apply, tallyAt_apply] at h
    by_cases hg : g = debtCell c (20 - n) ∧ u = ()
    · exact ⟨n, Nat.lt_succ_self n, hg.1⟩
    · rw [if_neg hg] at h
      obtain ⟨i, hi, he⟩ := ih h
      exact ⟨i, Nat.lt_succ_of_lt hi, he⟩

theorem debtCell_tc (c : Dev nD) (n : ℕ) : (debtCell c n).1.2 = .tc := by
  unfold debtCell; (repeat' split) <;> rfl
theorem lvS_bar : lvS (.reg barS) = 1 := rfl
theorem lvS_dma (k : Fin 4) (i : Fin 7) : lvS (.dma (dmaS k i)) = if k.val < 2 then 0 else k.val := by revert k i; decide
/-- Payment `n`'s level: 1 for a signal, 2 for a copy of the first half, 3 for one of the second. -/
theorem lv_debt (c : Dev nD) (n : ℕ) (hn : n < 21) : lv (debtCell c n) () = 1 + n / 7 := by
  unfold debtCell
  split
  · rename_i h; show 1 = _; omega
  · split
    · rename_i h h'; show lvS (.dma (dmaS 2 _)) = _; rw [lvS_dma]; show 2 = _; omega
    · split
      · show lvS (.dma (dmaS 3 _)) = _; rw [lvS_dma]; show 3 = _; omega
      · omega

omit [FloatOps F] in
/-- A device may wait on a cell whose level lies below the levels of all its outstanding payments. -/
theorem mayWait (c : Dev nD) (sm : SemLoc sig) (n : ℕ) (hn : n ≤ 21) (h : lvS sm < 1 + (21 - n) / 7) :
    (levAts L lv : sProp 𝕄) ⊢ MayWait (c : Thread nD τ) sm () (owed c n) := by
  rcases Nat.eq_zero_or_pos n with rfl | hpos
  · unfold owed; rw [MayWait_zero]; iintro -; iempintro
  refine MayOwe.of_cut (L := L) (lev := lv) (lvS sm) (fun p hp => by rw [Finset.mem_singleton.mp hp, L_tc]; exact Finset.mem_singleton_self _)
    (fun g u hg => by
      obtain ⟨i, hi, rfl⟩ := owed_pos hg
      unfold L; rw [if_pos (debtCell_tc _ _)]; exact Finset.mem_singleton_self _)
    (fun p hp => by rw [Finset.mem_singleton.mp hp]; exact Nat.le_refl _)
    (fun g u hg => by
      obtain ⟨i, hi, rfl⟩ := owed_pos hg
      rw [show lv (debtCell c (20 - i)) u = 1 + (20 - i) / 7 from lv_debt c (20 - i) (by omega)]
      omega)

/-! ## The records every device may read: all the cells' invariants, all at round 0 -/

def records (K : Dev nD × CellIx → ℕ) : sProp 𝕄 :=
  iprop((bigSep Finset.univ fun ci : Dev nD × CellIx => cellInv ER (sched m ρ) (K ci) (kcell ci))
    ∗ bigSep Finset.univ fun ci : Dev nD × CellIx => reached ER (kcell ci) 0)

instance records_persistent (K : Dev nD × CellIx → ℕ) : BI.Persistent (records m ρ K) := by unfold records; infer_instance

theorem inv_at (K : Dev nD × CellIx → ℕ) (ci : Dev nD × CellIx) : records m ρ K ⊢ cellInv ER (sched m ρ) (K ci) (kcell ci) := by
  unfold records
  exact sep_elim_left.trans (bigSep_elim (Finset.mem_univ ci))
theorem reached_at (K : Dev nD × CellIx → ℕ) (ci : Dev nD × CellIx) : records m ρ K ⊢ reached ER (kcell ci) 0 := by
  unfold records
  exact sep_elim_right.trans (bigSep_elim (Finset.mem_univ ci))

end Cert.KernelIdeal.Exchange

end
-- ==== Proof.KernelIdeal.Steps.lean ====
/-
# One step of the exchange at a time

Each effect of the kernel as one lemma, at a symbolic device and mask: a signal to a partner, the barrier wait, a copy of
the first half, a copy of the second, the wait on a copy's cell (which also closes the cell: its counter is zero), a load
and a store through a slice.
-/
module

public import proofs.«01_k».proof.Proof.KernelIdeal.Protocol

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ) (ρ : Dev nD → PrngReg)
variable (K : Dev nD × CellIx → ℕ) (c : Dev nD)

/-- What device `c` owes, whatever it has waited on. -/
def owing (O : CellTallies nD τ sig Unit) : sProp 𝕄 := iprop(∃ W, owes (c : Thread nD τ) O W)

/-- A place of a buffer owned at some contents. -/
def owned {sp : Space} {sh : Shape} {e : EltTy} (b : Memref sig .tc sp sh e) : sProp 𝕄 := iprop(∃ X, owns (c : Thread nD τ) b fullShare X)

omit [FloatOps F] in
theorem owned_intro {sp : Space} {sh : Shape} {e : EltTy} (b : Memref sig .tc sp sh e) (X : sh.Idx → Elt F e) :
    (owns (c : Thread nD τ) b fullShare X : sProp 𝕄) ⊢ owned c b := by
  unfold owned; iintro H; iexists X; iexact H

theorem mem_bar (i : Fin 7) : i ∈ (sched (F := F) m ρ).duties (barCell c) 0 := by
  rw [duties_bar]; exact Finset.mem_univ _
theorem mem_dma (κ : Fin 4) (i : Fin 7) : (0 : Fin 7) ∈ (sched (F := F) m ρ).duties (dmaCell c κ i) 0 := by
  rw [duties_dma]; exact Finset.mem_singleton_self _

/-- A signal to the `i`-th partner's barrier cell, handing over place `i` of the landing buffer. -/
theorem wp_sig (n : Dev nD) (i : Fin 7) (hn : n = peer i c) {k' : ℕ} (hk : k' = 1) {O' : CellTallies nD τ sig Unit}
    (O : CellTallies nD τ sig Unit) (hO : O' = O + tallyAt (barCell (peer i c)) () 1)
    {α : Type} {Q : α → sProp 𝕄} {k : PUnit.{1} → Prog (TpuEff nD τ sig (Elt F) Λ₀ .tc) α} :
    records m ρ K
      ⊢ iprop(owing c O' -∗ dutyTok ER (barCell (peer i c)) 0 i -∗ owned c (gC i) -∗ (owing c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn hk
  unfold owing owned
  iintro #HR ⟨%W, HO⟩ Ht Hg Hk
  iapply (Rounds.wp_signal 𝒱₀ ER (sched m ρ) (c : Thread nD τ) none (dst := (peer i c : Thread nD τ)) (κ := K (peer i c, .inl ()))
      (r := 0) (d := i) (mem_bar m ρ (peer i c) i) (amount_bar m ρ (peer i c) i) () O hO (W := W))
    $$ [HO Ht Hg]
  · isplitr; · iapply (inv_at m ρ K (peer i c, .inl ())); iexact HR
    isplitl [HO]; · iexact HO
    isplitl [Ht]; · iexact Ht
    isplitl [Hg]; · rw [payload_bar]; unfold barPay; rw [peer_peer]; iexact Hg
    iapply (reached_at m ρ K (peer i c, .inl ())); iexact HR
  iintro HO
  iapply Hk; iexists W; iexact HO

theorem lvS_bar_lt : lvS (.reg barS) < 1 + (21 - 14) / 7 := by decide
theorem expect_sum_bar : 0 + 7 = (sched (F := F) m ρ).expect (barCell c) 0 := (expect_bar m ρ c).symm

/-- The barrier wait: the seven partners' landing places, and the barrier cell closed. -/
theorem wp_bar {k' : ℕ} (hk : k' = 7) {α : Type} {Q : α → sProp 𝕄} {k : PUnit.{1} → Prog (TpuEff nD τ sig (Elt F) Λ₀ .tc) α} :
    records m ρ K
      ⊢ iprop(levAts L lv -∗ cred (tallyAt (barCell c) () 7) -∗ owing c (owed c 14) -∗ atPos ER (barCell c) 0 ∅ 0 -∗ ((owing c (owed c 14) ∗ semVal (barCell c) 0
            ∗ barPay c 0 ∗ barPay c 1 ∗ barPay c 2 ∗ barPay c 3 ∗ barPay c 4 ∗ barPay c 5 ∗ barPay c 6)
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS k') k) Q) := by
  subst hk
  unfold owing
  iintro #HR #Hlev Hc ⟨%W, HO⟩ Hat Hk
  iapply (Rounds.wp_wait_rest_token 𝒱₀ ER (sched m ρ) (c : Thread nD τ) none (κ := K (c, .inl ()))
      (wpE_semWait_eq 𝒱₀ (c : Thread nD τ) none Set.univ) (Set.mem_univ _) () (O := owed c 14) (W := W) (R := 0) (m := 0) (T := ∅)
      (expect_sum_bar m ρ c)) $$ [Hc HO Hat]
  · isplitr; · iapply (inv_at m ρ K (c, .inl ())); iexact HR
    isplitl [Hc]; · iexact Hc
    isplitl [HO]; · iexact HO
    isplitr; · iapply (mayWait (F := F) c (.reg barS) 14 (by decide) lvS_bar_lt); iexact Hlev
    iexact Hat
  iintro ⟨HO, Hat, -, Hpay⟩
  ihave Hp := (Entails.of_eq (rest_bar m ρ c)) $$ Hpay
  imod (Rounds.cell_close ER (sched m ρ) (Set.mem_univ (K (c, .inl ()))) (fun h => h) (R := 0 + 1) (duties_later m ρ (barCell c))) $$ [Hat] with Hz
  · isplitr; · iapply (inv_at m ρ K (c, .inl ())); iexact HR
    iexact Hat
  iapply Hk
  isplitl [HO]; · iexists _; iexact HO
  isplitl [Hz]; · iexact Hz
  iexact Hp

/-- The wait on a copy cell of device `c`: the cell's payload, and the cell closed. -/
theorem wp_wait_cell (κ : Fin 4) (i : Fin 7) (n : ℕ) (hn : n ≤ 21) (hl : lvS (.dma (dmaS κ i)) < 1 + (21 - n) / 7)
    {s : DmaSem sig} (hs : s = dmaS κ i) {sp sp' : Space} {sh sh' : Shape} {e e' : EltTy} {src : Memref sig .tc sp' sh' e'} {κ' : Kind} {dst : Memref sig κ' sp sh e}
    {h1 : src.view.WordExact} {h2 : dst.view.WordExact} (hN : dst.view.dmaCredit = N) {α : Type} {Q : α → sProp 𝕄} {k : PUnit.{1} → Prog (TpuEff nD τ sig (Elt F) Λ₀ .tc) α} :
    records m ρ K
      ⊢ iprop(levAts L lv -∗ cred (tallyAt (dmaCell c κ i) () N) -∗ owing c (owed c n) -∗ atPos ER (dmaCell c κ i) 0 ∅ 0 -∗ ((owing c (owed c n) ∗ semVal (dmaCell c κ i) 0 ∗ dmaPay m ρ c i κ.val)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 s src dst h1 h2) k) Q) := by
  subst hs
  unfold owing
  rw [← hN]
  iintro #HR #Hlev Hc ⟨%W, HO⟩ Hat Hk
  iapply (Rounds.wp_wait_rest_token 𝒱₀ ER (sched m ρ) (c : Thread nD τ) none (κ := K (c, .inr (κ, i)))
      (wpE_waitDma2_eq 𝒱₀ (c : Thread nD τ) none Set.univ) (Set.mem_univ _) () (O := owed c n) (W := W) (R := 0) (m := 0) (T := ∅)
      ((Nat.zero_add _).trans (hN.trans (expect_dma m ρ c κ i).symm))) $$ [Hc HO Hat]
  · isplitr; · iapply (inv_at m ρ K (c, .inr (κ, i))); iexact HR
    isplitl [Hc]; · iexact Hc
    isplitl [HO]; · iexact HO
    isplitr; · iapply (mayWait (F := F) c (.dma (dmaS κ i)) n hn hl); iexact Hlev
    iexact Hat
  iintro ⟨HO, Hat, -, Hpay⟩
  ihave Hp := (Entails.of_eq (rest_dma m ρ c κ i)) $$ Hpay
  imod (Rounds.cell_close ER (sched m ρ) (Set.mem_univ (K (c, .inr (κ, i)))) (fun h => h) (R := 0 + 1) (duties_later m ρ (dmaCell c κ i))) $$ [Hat] with Hz
  · isplitr; · iapply (inv_at m ρ K (c, .inr (κ, i))); iexact HR
    iexact Hat
  iapply Hk
  isplitl [HO]; · iexists _; iexact HO
  isplitl [Hz]; · iexact Hz
  iexact Hp

theorem amt_g (κ : Fin 4) (i j : Fin 7) : (gC i).view.amount (.dma (dmaS κ j)) = N := credit_g i
theorem amt_c (κ : Fin 4) (i : Fin 7) (s : Fin 8) : (cC s).view.amount (.dma (dmaS κ i)) = N := credit_c s

/-- What a first copy's landing gives its receiver: the landing place at the sent chunk, and the slot it came from. -/
theorem rs_landed (i : Fin 7) (fs : Buf (Elt F) ((cC (slot i)).view.loc (c : Thread nD τ))) (hfs : (cC (slot i)).view.read (Elt F) fs = part m ρ c (slot i))
    (fd : Buf (Elt F) ((gC i).view.loc (peer i c : Thread nD τ))) :
    iprop(((gC i).view.loc (peer i c : Thread nD τ) ↦[(gC i).view.set]{fullShare} ((gC i).view.write (Elt F) fd ((cC (slot i)).view.read (Elt F) fs) Finset.univ))
        ∗ ((cC (slot i)).view.loc (c : Thread nD τ) ↦[(cC (slot i)).view.set]{fullShare} fs))
      ⊢ ((sched m ρ).payload (dmaCell (peer i c) 2 i) 0 0 : sProp 𝕄) := by
  rw [payload_dma]
  show _ ⊢ rsPay m ρ (peer i c) i
  unfold rsPay
  rw [peer_peer]
  unfold owns
  iintro ⟨Hd, Hs⟩
  isplitl [Hd]
  · iexists ((gC i).view.write (Elt F) fd ((cC (slot i)).view.read (Elt F) fs) Finset.univ); isplitr
    · ipureintro; exact (View.read_write_univ _ _).trans hfs
    iexact Hd
  iexists fs; isplitr
  · ipureintro; exact hfs
  iexact Hs

/-- What a second copy's landing gives its receiver: the slot at the summed chunk. -/
theorem ag_landed (i : Fin 7) (fs : Buf (Elt F) ((cC 0).view.loc (c : Thread nD τ))) (hfs : (cC 0).view.read (Elt F) fs = tot m ρ c)
    (fd : Buf (Elt F) ((cC (slot i)).view.loc (peer i c : Thread nD τ))) :
    ((cC (slot i)).view.loc (peer i c : Thread nD τ) ↦[(cC (slot i)).view.set]{fullShare} ((cC (slot i)).view.write (Elt F) fd ((cC 0).view.read (Elt F) fs) Finset.univ))
      ⊢ ((sched m ρ).payload (dmaCell (peer i c) 3 i) 0 0 : sProp 𝕄) := by
  rw [payload_dma]
  show _ ⊢ agPay m ρ (peer i c) i
  unfold agPay
  rw [peer_peer]
  unfold owns
  iintro Hd
  iexists ((cC (slot i)).view.write (Elt F) fd ((cC 0).view.read (Elt F) fs) Finset.univ); isplitr
  · ipureintro; exact (View.read_write_univ _ _).trans hfs
  iexact Hd

/-- What the sender of a second copy gets back: the share it lent. -/
theorem ag_back (i : Fin 7) (fs : Buf (Elt F) ((cC 0).view.loc (c : Thread nD τ))) (hfs : (cC 0).view.read (Elt F) fs = tot m ρ c) :
    ((cC 0).view.loc (c : Thread nD τ) ↦[(cC 0).view.set]{lend i.val} fs) ⊢ ((sched m ρ).payload (dmaCell c 1 i) 0 0 : sProp 𝕄) := by
  rw [payload_dma]
  show _ ⊢ agBack m ρ c i
  unfold agBack owns
  iintro Hs
  iexists fs; isplitr
  · ipureintro; exact hfs
  iexact Hs

theorem rs_sent (i : Fin 7) : (emp : sProp 𝕄) ⊢ ((sched m ρ).payload (dmaCell c 0 i) 0 0 : sProp 𝕄) := by
  rw [payload_dma]; exact BI.Entails.refl _

/-- A copy of the first half: the slot of the `i`-th partner's chunk, with its contents, into place `i` of that partner's
    landing buffer; slot and landing place both go with the landing. -/
theorem wp_rs (n : Dev nD) (i : Fin 7) (s : Fin 8) (hs : slot i = s) (hn : n = peer i c) {O' : CellTallies nD τ sig Unit}
    (O : CellTallies nD τ sig Unit) (hO : O' = O + tallyAt (dmaCell (peer i c) 2 i) () N)
    {src : Memref sig .tc .vmem S64x512 .bf16} (hsrc : src = cC s)
    {dst : Memref sig (Dev.tc n : Thread nD τ).2.kind .vmem S64x512 .bf16} (hdst : dst = gC i)
    {sS sR : DmaSem sig} (hS : sS = dmaS 0 i) (hR : sR = dmaS 2 i)
    {hsc : dst.view.ref.isScScratch = false} {h1 : src.view.WordExact} {h2 : dst.view.WordExact}
    {hsem : DmaTarget.Typed .vmem (.dma sR) (.remote (Dev.tc n : Thread nD τ) dst (.dma sS) hsc)}
    {α : Type} {Q : α → sProp 𝕄} {k : PUnit.{1} → Prog (TpuEff nD τ sig (Elt F) Λ₀ .tc) α} :
    records m ρ K
      ⊢ iprop(owns (c : Thread nD τ) (cC s) fullShare (part m ρ c s) -∗ barPay c i -∗ owing c O'
        -∗ dutyTok ER (dmaCell c 0 i) 0 0 -∗ dutyTok ER (dmaCell (peer i c) 2 i) 0 0 -∗ ((cred (tallyAt (dmaCell c 0 i) () N) ∗ owing c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) h1 h2 hsem) k) Q) := by
  subst hs hn hsrc hdst hS hR
  unfold owing barPay owns
  iintro #HR ⟨%fs, %hfs, Hs⟩ ⟨%X, %fd, %hfd, Hd⟩ ⟨%W, HO⟩ HtS HtR Hk
  iapply (Rounds.wp_send_landing_pointsTo 𝒱₀ ER (sched m ρ) (c : Thread nD τ) none (c' := (peer i c : Thread nD τ)) (src := cC (slot i)) (dst := gC i)
      (sS := .dma (dmaS 0 i)) (sem := .dma (dmaS 2 i)) (κ₁ := K (c, .inr (0, i))) (κ₂ := K (peer i c, .inr (2, i)))
      (r₁ := 0) (r₂ := 0) (d₁ := 0) (d₂ := 0) (fs := fs) (fd := fd) (mem_dma m ρ c 0 i) (mem_dma m ρ (peer i c) 2 i)
      () () N (amt_g 2 i i) (amount_dma m ρ c 0 i 0) (amount_dma m ρ (peer i c) 2 i 0) O hO (W := W)
      (rs_sent m ρ c i) (rs_landed m ρ c i fs hfs fd)) $$ [Hs Hd HO HtS HtR]
  · isplitr; · iapply (inv_at m ρ K (c, .inr (0, i))); iexact HR
    isplitr; · iapply (inv_at m ρ K (peer i c, .inr (2, i))); iexact HR
    isplitl [Hs]; · iexact Hs
    isplitl [Hd]; · iexact Hd
    isplitl [HO]; · iexact HO
    isplitl [HtS]; · iexact HtS
    isplitr; · iapply (reached_at m ρ K (c, .inr (0, i))); iexact HR
    isplitl [HtR]; · iexact HtR
    iapply (reached_at m ρ K (peer i c, .inr (2, i))); iexact HR
  iintro ⟨Hc, HO⟩
  iapply Hk
  isplitl [Hc]; · iexact Hc
  iexists W; iexact HO

/-- A copy of the second half: a share of slot 0, holding the summed chunk, into the slot of the `i`-th partner that the
    partner's first copy came from. -/
theorem wp_ag (n : Dev nD) (i : Fin 7) (s : Fin 8) (hs : slot i = s) (a b : ℕ) (ha : i.val = a) (hb : a + 1 = b) (hn : n = peer i c) {O' : CellTallies nD τ sig Unit}
    (O : CellTallies nD τ sig Unit) (hO : O' = O + tallyAt (dmaCell (peer i c) 3 i) () N)
    {src : Memref sig .tc .vmem S64x512 .bf16} (hsrc : src = cC 0)
    {dst : Memref sig (Dev.tc n : Thread nD τ).2.kind .vmem S64x512 .bf16} (hdst : dst = cC s)
    {sS sR : DmaSem sig} (hS : sS = dmaS 1 i) (hR : sR = dmaS 3 i)
    {hsc : dst.view.ref.isScScratch = false} {h1 : src.view.WordExact} {h2 : dst.view.WordExact}
    {hsem : DmaTarget.Typed .vmem (.dma sR) (.remote (Dev.tc n : Thread nD τ) dst (.dma sS) hsc)} (X : S64x512.Idx → Elt F .bf16)
    {α : Type} {Q : α → sProp 𝕄} {k : PUnit.{1} → Prog (TpuEff nD τ sig (Elt F) Λ₀ .tc) α} :
    records m ρ K
      ⊢ iprop(owns (c : Thread nD τ) (cC 0) (keep a) (tot m ρ c) -∗ owns (peer i c : Thread nD τ) (cC (slot i)) fullShare X
        -∗ owing c O' -∗ dutyTok ER (dmaCell c 1 i) 0 0 -∗ dutyTok ER (dmaCell (peer i c) 3 i) 0 0 -∗ ((cred (tallyAt (dmaCell c 1 i) () N) ∗ owing c O ∗ owns (c : Thread nD τ) (cC 0) (keep b) (tot m ρ c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) h1 h2 hsem) k) Q) := by
  subst hs ha hb hn hsrc hdst hS hR
  unfold owing
  iintro #HR Hs Hd ⟨%W, HO⟩ HtS HtR Hk
  ihave Hs' := (owns_halves (c : Thread nD τ) (cC 0) (keep i.val) (tot m ρ c)).1 $$ Hs
  icases Hs' with ⟨Hs, Hkeep⟩
  ihave Hs := (show owns (c : Thread nD τ) (cC 0) (keep i.val).left (tot m ρ c)
      ⊢ (iprop(∃ f, ⌜(cC 0).view.read (Elt F) f = tot m ρ c⌝ ∗ ((cC 0).view.loc (c : Thread nD τ) ↦[(cC 0).view.set]{lend i.val} f)) : sProp 𝕄) from .rfl) $$ Hs
  icases Hs with ⟨%fs, %hfs, Hs⟩
  ihave Hd := (show owns (peer i c : Thread nD τ) (cC (slot i)) fullShare X
      ⊢ (iprop(∃ f, ⌜(cC (slot i)).view.read (Elt F) f = X⌝ ∗ ((cC (slot i)).view.loc (peer i c : Thread nD τ) ↦[(cC (slot i)).view.set]{fullShare} f)) : sProp 𝕄) from .rfl) $$ Hd
  icases Hd with ⟨%fd, %hfd, Hd⟩
  iapply (Rounds.wp_send_pointsTo 𝒱₀ ER (sched m ρ) (c : Thread nD τ) none (c' := (peer i c : Thread nD τ)) (src := cC 0) (dst := cC (slot i))
      (sS := .dma (dmaS 1 i)) (sem := .dma (dmaS 3 i)) (κ₁ := K (c, .inr (1, i))) (κ₂ := K (peer i c, .inr (3, i)))
      (r₁ := 0) (r₂ := 0) (d₁ := 0) (d₂ := 0) (fs := fs) (fd := fd) (q := lend i.val) (mem_dma m ρ c 1 i) (mem_dma m ρ (peer i c) 3 i)
      () () N (amt_c 3 i (slot i)) (amount_dma m ρ c 1 i 0) (amount_dma m ρ (peer i c) 3 i 0) O hO (W := W)
      (ag_back m ρ c i fs hfs) (ag_landed m ρ c i fs hfs fd)) $$ [Hs Hd HO HtS HtR]
  · isplitr; · iapply (inv_at m ρ K (c, .inr (1, i))); iexact HR
    isplitr; · iapply (inv_at m ρ K (peer i c, .inr (3, i))); iexact HR
    isplitl [Hs]; · iexact Hs
    isplitl [Hd]; · iexact Hd
    isplitl [HO]; · iexact HO
    isplitl [HtS]; · iexact HtS
    isplitr; · iapply (reached_at m ρ K (c, .inr (1, i))); iexact HR
    isplitl [HtR]; · iexact HtR
    iapply (reached_at m ρ K (peer i c, .inr (3, i))); iexact HR
  iintro ⟨Hc, HO⟩
  iapply Hk
  isplitl [Hc]; · iexact Hc
  isplitl [HO]; · iexists W; iexact HO
  iexact Hkeep

/-- A share of slot 0 that is kept and the next one returned make the share kept before. -/
theorem keep_join (n : ℕ) (X : S64x512.Idx → Elt F .bf16) :
    iprop(owns (c : Thread nD τ) (cC 0) (lend n) X ∗ owns (c : Thread nD τ) (cC 0) (keep (n + 1)) X) ⊢ (owns (c : Thread nD τ) (cC 0) (keep n) X : sProp 𝕄) :=
  (owns_halves (c : Thread nD τ) (cC 0) (keep n) X).2

/-- A load through a slice owned at `X` reads `X`. -/
theorem wp_load_slice {cs : CoreSpace} {s : Shape} {e : EltTy} {b : Memref sig .tc cs s e} (r : Rect s) (hr : ∀ a, r.stride a = 1)
    {hl : b.view.LoadsAt r.toLoadRect} (q : PosShare TreeShare) (X : r.shape.Idx → Elt F e)
    {α : Type} {Q : α → sProp 𝕄} {k : (r.shape.Idx → Elt F e) → Prog (TpuEff nD τ sig (Elt F) Λ₀ .tc) α} :
    (owns (c : Thread nD τ) (b.slice r hr) q X)
      ⊢ iprop((owns (c : Thread nD τ) (b.slice r hr) q X -∗ wp frame (wpE (defs₀ (F := F)) 𝒱₀ (c : Thread nD τ) none) Set.univ (k X) Q)
        -∗ wp frame (wpE (defs₀ (F := F)) 𝒱₀ (c : Thread nD τ) none) Set.univ (.op (.load b r.toLoadRect hl) k) Q) := by
  unfold owns
  iintro ⟨%f, %hf, H⟩ Hk
  iapply (wp_load_rect 𝒱₀ (c : Thread nD τ) none Set.univ (m := b) (r := r) (S := (b.access r).set) (f := f) (q := q) (Finset.Subset.refl _)) $$ H
  iintro H
  have hf' : (b.access r).read (Elt F) f = X := hf
  rw [hf']
  iapply Hk
  iexists f; isplitr
  · ipureintro; exact hf
  iexact H

/-- A load through a slice owned at some contents, its value unused. -/
theorem wp_load_owned {cs : CoreSpace} {s : Shape} {e : EltTy} {b : Memref sig .tc cs s e} (r : Rect s) (hr : ∀ a, r.stride a = 1)
    {hl : b.view.LoadsAt r.toLoadRect}
    {α : Type} {Q : α → sProp 𝕄} {k : (r.shape.Idx → Elt F e) → Prog (TpuEff nD τ sig (Elt F) Λ₀ .tc) α} :
    (owned c (b.slice r hr) : sProp 𝕄)
      ⊢ iprop((∀ X, owned c (b.slice r hr) -∗ wp frame (wpE (defs₀ (F := F)) 𝒱₀ (c : Thread nD τ) none) Set.univ (k X) Q)
        -∗ wp frame (wpE (defs₀ (F := F)) 𝒱₀ (c : Thread nD τ) none) Set.univ (.op (.load b r.toLoadRect hl) k) Q) := by
  unfold owned
  iintro ⟨%X, H⟩ Hk
  iapply (wp_load_slice c r hr fullShare X) $$ H
  iintro H
  iapply Hk $$ %X
  iexists X; iexact H

/-- A store through a slice leaves the slice at the stored value. -/
theorem wp_store_slice {cs : CoreSpace} {s : Shape} {e : EltTy} {b : Memref sig .tc cs s e} (r : Rect s) (hr : ∀ a, r.stride a = 1)
    {w : r.shape.Idx → Elt F e} {hx : (b.access r).Stores Finset.univ} {hm : (Finset.univ : Finset r.shape.Idx) = Finset.univ ∨ ∀ a, r.stride a = 1}
    {α : Type} {Q : α → sProp 𝕄} {k : PUnit.{1} → Prog (TpuEff nD τ sig (Elt F) Λ₀ .tc) α} :
    (owned c (b.slice r hr) : sProp 𝕄)
      ⊢ iprop((owns (c : Thread nD τ) (b.slice r hr) fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store b r w Finset.univ hx hm) k) Q) := by
  unfold owned owns
  iintro ⟨%X, %f, %hf, H⟩ Hk
  iapply (wp_store 𝒱₀ (c : Thread nD τ) none Set.univ (m := b) (r := r) (Mk := Finset.univ) (S := (b.access r).set) (f := f)
    (Finset.Subset.refl _)) $$ H
  iintro H
  iapply Hk
  iexists ((b.access r).write (Elt F) f w Finset.univ); isplitr
  · ipureintro; exact View.read_write_univ _ _
  iexact H

/-- What is still owed after each kind of payment, by the payment's mask. -/
theorem owed_sig (i : Fin 7) : owed c (20 - i.val + 1) = owed c (20 - i.val) + tallyAt (barCell (peer i c)) () 1 := by
  fin_cases i <;> rfl
theorem owed_rs (i : Fin 7) : owed c (13 - i.val + 1) = owed c (13 - i.val) + tallyAt (dmaCell (peer i c) 2 i) () N := by
  fin_cases i <;> rfl
theorem owed_ag (i : Fin 7) : owed c (6 - i.val + 1) = owed c (6 - i.val) + tallyAt (dmaCell (peer i c) 3 i) () N := by
  fin_cases i <;> rfl

/-- The partial result in its scratch, whole. -/
def pPts : sProp 𝕄 := iprop((c : Thread nD τ).loc cc0_scratch0 ↦{fullShare} psum m ρ c)

/-- Slot `s` filled: the rows of its chunk read from the partial result, rounded, stored. -/
theorem wp_pack (s : Fin 8) (g : Vec F S64x512 .f32 → Vec F S64x512 .bf16) (hg : g (pM.view.readAt (Elt F) (oR c s).toLoadRect (psum m ρ c)) = part m ρ c s)
    {hl : (pM : Memref sig .tc .vmem S512x512 .f32).view.LoadsAt (oR c s).toLoadRect} {hl' : (cM : Memref sig .tc .vmem S512x512 .bf16).view.LoadsAt (cR s).toLoadRect}
    {hx : ((cM : Memref sig .tc .vmem S512x512 .bf16).access (cR s)).Stores Finset.univ} {hm : (Finset.univ : Finset (cR s).shape.Idx) = Finset.univ ∨ ∀ a, (cR s).stride a = 1}
    {α : Type} {Q : α → sProp 𝕄} {k : PUnit.{1} → Prog (TpuEff nD τ sig (Elt F) Λ₀ .tc) α} :
    pPts m ρ c
      ⊢ iprop(owned c (cC s) -∗ ((pPts m ρ c ∗ owns (c : Thread nD τ) (cC s) fullShare (part m ρ c s))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load pM (oR c s).toLoadRect hl) fun v => .op (.load cM (cR s).toLoadRect hl') fun _ =>
                .op (.store cM (cR s) (g v) Finset.univ hx hm) k) Q) := by
  unfold pPts
  iintro Hp Hc Hk
  iapply (wp_load 𝒱₀ (c : Thread nD τ) none Set.univ (m := pM) (Finset.subset_univ _)) $$ Hp; iintro Hp
  iapply (wp_load_owned c (cR s) (fun _ => rfl)) $$ Hc; iintro %X Hc
  iapply (wp_store_slice c (cR s) (fun _ => rfl)) $$ Hc; iintro Hc
  iapply Hk
  isplitl [Hp]; · iexact Hp
  rw [← hg]; iexact Hc

/-- A chunk of the output written: a slot owned at `Y` read, extended, stored. -/
theorem wp_out (s t : Fin 8) (off : Fin 2 → ℕ) (hoff : off = k0_off3 c (BitVec.ofNat 32 t.val)) (q : PosShare TreeShare) (Y : Vec F S64x512 .bf16)
    (g : Vec F S64x512 .bf16 → Vec F S64x512 .f32) {hb : ∀ a, off a + S64x512.size a ≤ S512x512.size a}
    {hl : (cM : Memref sig .tc .vmem S512x512 .bf16).view.LoadsAt (cR s).toLoadRect}
    {hl' : (oM : Memref sig .tc .vmem S512x512 .f32).view.LoadsAt (Rect.unit (s := S512x512) off S64x512.size hb).toLoadRect}
    {hx : ((oM : Memref sig .tc .vmem S512x512 .f32).access (Rect.unit (s := S512x512) off S64x512.size hb)).Stores Finset.univ}
    {hm : (Finset.univ : Finset (Rect.unit (s := S512x512) off S64x512.size hb).shape.Idx) = Finset.univ ∨ ∀ a, (Rect.unit (s := S512x512) off S64x512.size hb).stride a = 1}
    {α : Type} {Q : α → sProp 𝕄} {k : PUnit.{1} → Prog (TpuEff nD τ sig (Elt F) Λ₀ .tc) α} :
    owns (c : Thread nD τ) (cC s) q Y
      ⊢ iprop(owned c (oC c t) -∗ ((owns (c : Thread nD τ) (cC s) q Y ∗ owns (c : Thread nD τ) (oC c t) fullShare (g Y))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load cM (cR s).toLoadRect hl) fun v => .op (.load oM (Rect.unit (s := S512x512) off S64x512.size hb).toLoadRect hl') fun _ =>
                .op (.store oM (Rect.unit (s := S512x512) off S64x512.size hb) (g v) Finset.univ hx hm) k) Q) := by
  subst hoff
  iintro Hc Ho Hk
  iapply (wp_load_slice c (cR s) (fun _ => rfl) q Y) $$ Hc; iintro Hc
  iapply (wp_load_owned c (oR c t) (fun _ => rfl)) $$ Ho; iintro %X Ho
  iapply (wp_store_slice c (oR c t) (fun _ => rfl)) $$ Ho; iintro Ho
  iapply Hk
  isplitl [Hc]; · iexact Hc
  iexact Ho

/-- A store through a slice of a value known to be `X`. -/
theorem wp_store_slice_eq {cs : CoreSpace} {s : Shape} {e : EltTy} {b : Memref sig .tc cs s e} (r : Rect s) (hr : ∀ a, r.stride a = 1)
    {w : r.shape.Idx → Elt F e} (X : r.shape.Idx → Elt F e) {hx : (b.access r).Stores Finset.univ} {hm : (Finset.univ : Finset r.shape.Idx) = Finset.univ ∨ ∀ a, r.stride a = 1}
    {α : Type} {Q : α → sProp 𝕄} {k : PUnit.{1} → Prog (TpuEff nD τ sig (Elt F) Λ₀ .tc) α} :
    (owned c (b.slice r hr) : sProp 𝕄)
      ⊢ iprop(⌜w = X⌝ -∗ (owns (c : Thread nD τ) (b.slice r hr) fullShare X -∗ wp frame (wpE (defs₀ (F := F)) 𝒱₀ (c : Thread nD τ) none) Set.univ (k ⟨⟩) Q)
        -∗ wp frame (wpE (defs₀ (F := F)) 𝒱₀ (c : Thread nD τ) none) Set.univ (.op (.store b r w Finset.univ hx hm) k) Q) := by
  iintro H %hw Hk
  subst hw
  iapply (wp_store_slice c r hr) $$ H; iintro H
  iapply Hk; iexact H

/-! ## What the payloads are -/

theorem open_rs (i : Fin 7) (κ : ℕ) (hκ : κ = 2) : dmaPay m ρ c i κ ⊢ (iprop(owns (c : Thread nD τ) (gC i) fullShare (part m ρ (peer i c) (slot i))
    ∗ owns (peer i c : Thread nD τ) (cC (slot i)) fullShare (part m ρ (peer i c) (slot i))) : sProp 𝕄) := by
  subst hκ; exact BIBase.Entails.rfl
theorem open_back (i : Fin 7) (κ a : ℕ) (hκ : κ = 1) (ha : i.val = a) : dmaPay m ρ c i κ ⊢ (owns (c : Thread nD τ) (cC 0) (lend a) (tot m ρ c) : sProp 𝕄) := by
  subst hκ ha; exact BIBase.Entails.rfl
theorem open_ag (i : Fin 7) (κ : ℕ) (s : Fin 8) (hκ : κ = 3) (hs : slot i = s) :
    dmaPay m ρ c i κ ⊢ (owns (c : Thread nD τ) (cC s) fullShare (tot m ρ (peer i c)) : sProp 𝕄) := by
  subst hκ hs; exact BIBase.Entails.rfl

/-- An output chunk at its owner's extended sum is that chunk of the result. -/
theorem out_chunk (s : Fin 8) (d : Dev nD) (hd : owner (chunk c s) = d) (g : Vec F S64x512 .bf16 → Vec F S64x512 .f32) (hg : g (tot m ρ d) = k0_pay39 (tot m ρ d)) :
    owns (c : Thread nD τ) (oC c s) fullShare (g (tot m ρ d)) ⊢ (owns (c : Thread nD τ) (oC c s) fullShare (fun j => outAll m ρ ((oR c s).emb j)) : sProp 𝕄) := by
  have e : (fun j => outAll m ρ ((oR c s).emb j)) = k0_pay39 (tot m ρ d) := by
    funext j; rw [outAll_chunk, hd]
  exact Entails.of_eq (congrArg (fun X => (owns (c : Thread nD τ) (oC c s) fullShare X : sProp 𝕄)) (hg.trans e.symm))

end Cert.KernelIdeal.Exchange

end
-- ==== Proof.KernelIdeal.Whole.lean ====
/-
# A buffer as its chunks

A buffer owned at some contents is its chunks owned at some contents, and back; a family over seven or eight indices
written out.
-/
module

public import proofs.«01_k».proof.Proof.KernelIdeal.Steps

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem bigSep_seven {M : Type} [URA M] (Φ : Fin 7 → sProp M) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_eight {M : Type} [URA M] (Φ : Fin 8 → sProp M) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- Pieces on a disjoint covering family are the pieces of one array. -/
theorem exists_glue {sh : Shape} {T : Type} [Fintype T] [DecidableEq T] (r : T → Rect sh)
    (hd : ∀ s t, s ≠ t → Disjoint (r s).set (r t).set) (hcov : (Finset.univ : Finset T).biUnion (fun t => (r t).set) = Finset.univ)
    {A : Type} (Y : ∀ t, (r t).shape.Idx → A) : ∃ X : sh.Idx → A, ∀ t j, X ((r t).emb j) = Y t j := by
  have hex : ∀ i : sh.Idx, ∃ t : T, ∃ j : (r t).shape.Idx, (r t).emb j = i := fun i => by
    obtain ⟨t, -, ht⟩ := Finset.mem_biUnion.mp (hcov.symm ▸ Finset.mem_univ i)
    obtain ⟨j, hj⟩ := (r t).exists_idx_of_mem ht
    exact ⟨t, j, hj⟩
  choose tt jj hj using hex
  refine ⟨fun i => Y (tt i) (jj i), fun t j => ?_⟩
  have key : ∀ (t' : T) (j' : (r t').shape.Idx), (r t').emb j' = (r t).emb j → Y t' j' = Y t j := fun t' j' h => by
    by_cases e : t' = t
    · subst e; rw [(r t').emb.injective h]
    · exact absurd (h ▸ (r t').idx_mem j' : (r t).emb j ∈ (r t').set)
        (Finset.disjoint_right.mp (hd t' t e) ((r t).idx_mem j))
  exact key _ _ (hj _)

theorem owned_split (c : Dev nD) {sp : Space} {sh : Shape} {e : EltTy} (b : Memref sig .tc sp sh e) {T : Type} [Fintype T] [DecidableEq T]
    (r : T → Rect sh) (hr : ∀ t a, (r t).stride a = 1)
    (hd : ∀ s t, s ≠ t → Disjoint (r s).set (r t).set) (hcov : (Finset.univ : Finset T).biUnion (fun t => (r t).set) = Finset.univ) :
    (owned c b : sProp 𝕄) ⊢ bigSep Finset.univ fun t => owned c (b.slice (r t) (hr t)) := by
  unfold owned
  iintro ⟨%X, H⟩
  ihave H := (owns_rects (c : Thread nD τ) b fullShare r hr hd hcov X) $$ H
  have hm : (bigSep Finset.univ fun t => owns (c : Thread nD τ) (b.slice (r t) (hr t)) fullShare (fun j => X ((r t).emb j)) : sProp 𝕄)
      ⊢ bigSep Finset.univ fun t => owned c (b.slice (r t) (hr t)) := bigSep_mono fun t _ => owned_intro c (b.slice (r t) (hr t)) _
  ihave H := hm $$ H
  unfold owned
  iexact H

theorem owned_join (c : Dev nD) {sp : Space} {sh : Shape} {e : EltTy} (b : Memref sig .tc sp sh e) {T : Type} [Fintype T] [DecidableEq T]
    (r : T → Rect sh) (hr : ∀ t a, (r t).stride a = 1)
    (hd : ∀ s t, s ≠ t → Disjoint (r s).set (r t).set) (hcov : (Finset.univ : Finset T).biUnion (fun t => (r t).set) = Finset.univ) :
    (bigSep Finset.univ fun t => owned c (b.slice (r t) (hr t))) ⊢ (owned c b : sProp 𝕄) := by
  unfold owned
  iintro H
  ihave H := (bigSep_exists_pi Finset.univ fun t (X : (r t).shape.Idx → Elt F e) => (owns (c : Thread nD τ) (b.slice (r t) (hr t)) fullShare X : sProp 𝕄)) $$ H
  icases H with ⟨%Y, H⟩
  obtain ⟨X, hX⟩ := exists_glue r hd hcov Y
  iexists X
  iapply (owns_of_rects (c : Thread nD τ) b fullShare r hr hd hcov X)
  have e : (fun t => owns (c : Thread nD τ) (b.slice (r t) (hr t)) fullShare (fun j => X ((r t).emb j)))
      = (fun t => (owns (c : Thread nD τ) (b.slice (r t) (hr t)) fullShare (Y t) : sProp 𝕄)) := by
    funext t; congr 1; funext j; exact hX t j
  rw [e]; iexact H

end Cert.KernelIdeal.Exchange

end
-- ==== Proof.KernelIdeal.Body.lean ====
/-
# The kernel body on one device

The body run once, at a symbolic device: signals, the barrier wait, the partial result, its chunks packed, the first half
of the exchange, the sum, the second half, and the output written chunk by chunk.
-/
module

public import proofs.«01_k».proof.Proof.KernelIdeal.Whole

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What a device's body starts from and ends with -/

/-- Of the first half with the `i`-th partner: the tokens of the copy out, the credit of the copy in, its two cells. -/
def rsRes (c : Dev nD) (i : Fin 7) : sProp 𝕄 :=
  iprop(dutyTok ER (dmaCell c 0 i) 0 0 ∗ dutyTok ER (dmaCell (peer i c) 2 i) 0 0 ∗ cred (tallyAt (dmaCell c 2 i) () N)
    ∗ atPos ER (dmaCell c 0 i) 0 ∅ 0 ∗ atPos ER (dmaCell c 2 i) 0 ∅ 0)
/-- Of the second half likewise. -/
def agRes (c : Dev nD) (i : Fin 7) : sProp 𝕄 :=
  iprop(dutyTok ER (dmaCell c 1 i) 0 0 ∗ dutyTok ER (dmaCell (peer i c) 3 i) 0 0 ∗ cred (tallyAt (dmaCell c 3 i) () N)
    ∗ atPos ER (dmaCell c 1 i) 0 ∅ 0 ∗ atPos ER (dmaCell c 3 i) 0 ∅ 0)
/-- The barrier: the credit of seven signals, the cell, and a token for each partner's cell. -/
def barRes (c : Dev nD) : sProp 𝕄 :=
  iprop(cred (tallyAt (barCell c) () 7) ∗ atPos ER (barCell c) 0 ∅ 0 ∗ bigSep Finset.univ fun i : Fin 7 => dutyTok ER (barCell (peer i c)) 0 i)

/-- What device `c` starts from besides its buffers. -/
def start (c : Dev nD) : sProp 𝕄 :=
  iprop((∃ K, records m ρ K) ∗ levAts L lv ∗ barRes c ∗ (bigSep Finset.univ fun i : Fin 7 => rsRes c i) ∗ bigSep Finset.univ fun i : Fin 7 => agRes c i)

/-- The three scratch buffers at some contents. -/
def scratch (c : Dev nD) : sProp 𝕄 :=
  iprop((∃ f : Buf (Elt F) ((c : Thread nD τ).loc cc0_scratch0), ((c : Thread nD τ).loc cc0_scratch0) ↦{fullShare} f) ∗ owned c cM ∗ owned c gM)

def Φ₀ (c : Dev nD) : sProp 𝕄 := iprop(start m ρ c ∗ scratch c)
/-- All 29 counters are zero, the scratch is whole. -/
def Φ₁ (c : Dev nD) : sProp 𝕄 :=
  iprop(scratch c ∗ semVal (barCell c) 0 ∗ (bigSep Finset.univ fun i : Fin 7 => iprop(semVal (dmaCell c 0 i) 0 ∗ semVal (dmaCell c 2 i) 0))
    ∗ bigSep Finset.univ fun i : Fin 7 => iprop(semVal (dmaCell c 1 i) 0 ∗ semVal (dmaCell c 3 i) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wqstg m ρ c
    | ⟨2, _⟩ => kstg m ρ c
    | ⟨3, _⟩ => vstg m ρ c
    | ⟨4, _⟩ => wostg m ρ c
    | ⟨5, _⟩ => outAll m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m ρ c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost (c : Dev nD) : sProp 𝕄 :=
  iprop(Φ₁ c ∗ (dats m ρ 0 c).owesAt () t0_0.succ
    ∗ stg c cc0_stg0_0 (xstg m ρ c) ∗ stg c cc0_stg1_0 (wqstg m ρ c) ∗ stg c cc0_stg2_0 (kstg m ρ c) ∗ stg c cc0_stg3_0 (vstg m ρ c)
    ∗ stg c cc0_stg4_0 (wostg m ρ c) ∗ stg c cc0_stg5_0 (outAll m ρ))

/-! ## Whole-buffer loads and stores -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

theorem read_x (f : (cc0_stg0_0 : Ref sig .tc).ty.Contents (Elt F)) {h} :
    (xM : Memref sig .tc .vmem S2x256x512 .f32).view.readAt (Elt F) (Rect.unit (s := S2x256x512) ![0, 0, 0] S2x256x512.size h).toLoadRect f = f :=
  Memref.readAt_unit_zero (Elt F) cc0_stg0_0 hz3 _ f
theorem read_k (f : (cc0_stg2_0 : Ref sig .tc).ty.Contents (Elt F)) {h} :
    (kM : Memref sig .tc .vmem S2x256x4x64 .f32).view.readAt (Elt F) (Rect.unit (s := S2x256x4x64) ![0, 0, 0, 0] S2x256x4x64.size h).toLoadRect f = f :=
  Memref.readAt_unit_zero (Elt F) cc0_stg2_0 hz4 _ f
theorem read_v (f : (cc0_stg3_0 : Ref sig .tc).ty.Contents (Elt F)) {h} :
    (vM : Memref sig .tc .vmem S2x256x4x64 .f32).view.readAt (Elt F) (Rect.unit (s := S2x256x4x64) ![0, 0, 0, 0] S2x256x4x64.size h).toLoadRect f = f :=
  Memref.readAt_unit_zero (Elt F) cc0_stg3_0 hz4 _ f
abbrev pR : Rect S512x512 := Rect.unit (s := S512x512) ![0, 0] S512x512.size inb_S512x512_S512x512_0_0
theorem write_p (f w : (cc0_scratch0 : Ref sig .tc).ty.Contents (Elt F)) :
    ((pM : Memref sig .tc .vmem S512x512 .f32).access pR : View sig .tc _ _ _).write (Elt F) f w Finset.univ = w :=
  Memref.write_access_unit_zero_univ (Elt F) cc0_scratch0 hz2 _ f w

/-- The store of the partial result. -/
theorem wp_store_psum (c : Dev nD) (f : (cc0_scratch0 : Ref sig .tc).ty.Contents (Elt F)) {w : Vec F S512x512 .f32}
    {hx : ((pM : Memref sig .tc .vmem S512x512 .f32).access pR).Stores Finset.univ} {hm : (Finset.univ : Finset pR.shape.Idx) = Finset.univ ∨ ∀ a, pR.stride a = 1}
    {α : Type} {Q : α → sProp 𝕄} {k : PUnit.{1} → Prog (TpuEff nD τ sig (Elt F) Λ₀ .tc) α} :
    ((c : Thread nD τ).loc cc0_scratch0 ↦{fullShare} f)
      ⊢ iprop(⌜w = psum m ρ c⌝ -∗ (pPts m ρ c -∗ wp frame (wpE (defs₀ (F := F)) 𝒱₀ (c : Thread nD τ) none) Set.univ (k ⟨⟩) Q)
          -∗ wp frame (wpE (defs₀ (F := F)) 𝒱₀ (c : Thread nD τ) none) Set.univ (.op (.store pM pR w Finset.univ hx hm) k) Q) := by
  iintro Hp %hw Hk
  subst hw
  iapply (wp_store 𝒱₀ (c : Thread nD τ) none Set.univ (m := pM) (r := pR) (Mk := Finset.univ) (Finset.subset_univ _)) $$ Hp; iintro Hp
  rw [write_p]
  iapply Hk
  unfold pPts
  iexact Hp

set_option maxHeartbeats 4000000 in
set_option maxRecDepth 8000 in
/-- The body, effect by effect, from `bodyPre` to `bodyPost`. -/
theorem body_run (c : Dev nD) :
    bodyPre m ρ c ⊢ wp frame (wpE (defs₀ (F := F)) 𝒱₀ (c : Thread nD τ) none) Set.univ
      (cc0_body xM (Memref.isWhole_whole _) wqM (Memref.isWhole_whole _) kM (Memref.isWhole_whole _) vM (Memref.isWhole_whole _)
        woM (Memref.isWhole_whole _) oM (Memref.isWhole_whole _) pM (Memref.isWhole_whole _) cM (Memref.isWhole_whole _)
        gM (Memref.isWhole_whole _) cc0_scratch3 cc0_scratch4) (fun _ => bodyPost m ρ c) := by
  rw [cc0_body_eq_skeleton]; unfold cc0_body_skel
  unfold bodyPre Φ₀ start scratch barRes
  rw [bigSep_seven, bigSep_seven, bigSep_seven]
  iintro ⟨⟨⟨⟨%K, #HR⟩, #Hlev, ⟨HcB, HatB, HtB0, HtB1, HtB2, HtB3, HtB4, HtB5, HtB6⟩, ⟨HR0, HR1, HR2, HR3, HR4, HR5, HR6⟩, ⟨HA0, HA1, HA2, HA3, HA4, HA5, HA6⟩⟩,
    ⟨⟨%fp, Hp⟩, Hc, Hg⟩⟩, Ho, ⟨%d0, %g0, %hg0, Hx⟩, ⟨%d1, %g1, %hg1, Hwq⟩, ⟨%d2, %g2, %hg2, Hkk⟩, ⟨%d3, %g3, %hg3, Hv⟩, ⟨%d4, %g4, %hg4, Hwo⟩, ⟨%d5, %g5, %hg5, Hout⟩⟩
  have hx : g0 = xstg m ρ c := by rw [hg0]; unfold Dat.before; rw [if_pos (fetch0_0 t0_0)]; rfl
  have hwq : g1 = wqstg m ρ c := by rw [hg1]; unfold Dat.before; rw [if_pos (fetch0_1 t0_0)]; rfl
  have hk : g2 = kstg m ρ c := by rw [hg2]; unfold Dat.before; rw [if_pos (fetch0_2 t0_0)]; rfl
  have hv : g3 = vstg m ρ c := by rw [hg3]; unfold Dat.before; rw [if_pos (fetch0_3 t0_0)]; rfl
  have hwo : g4 = wostg m ρ c := by rw [hg4]; unfold Dat.before; rw [if_pos (fetch0_4 t0_0)]; rfl
  subst hx hwq hk hv hwo
  clear hg0 hg1 hg2 hg3 hg4 hg5
  unfold Dat.owesAt Pipeline.owesWithin
  icases Ho with ⟨%W, %hW, HO⟩
  ihave HO := (show owes (c : Thread nD τ) ((dats m ρ 0 c).owed t0_0.castSucc) W ⊢ (owing c (owed c 21) : sProp 𝕄) from by
    unfold owing; iintro H; iexists W; iexact H) $$ HO
  -- the buffers as chunks
  ihave Hg := (owned_split c gM gR (fun _ _ => rfl) gR_disjoint gR_cover) $$ Hg
  ihave Hg := (Entails.of_eq (bigSep_seven _)) $$ Hg
  icases Hg with ⟨Hg0, Hg1, Hg2, Hg3, Hg4, Hg5, Hg6⟩
  ihave Hc := (owned_split c cM cR (fun _ _ => rfl) cR_disjoint cR_cover) $$ Hc
  ihave Hc := (Entails.of_eq (bigSep_eight _)) $$ Hc
  icases Hc with ⟨Hc0, Hc1, Hc2, Hc3, Hc4, Hc5, Hc6, Hc7⟩
  ihave Hout := (show (((c : Thread nD τ).loc cc0_stg5_0) ↦{fullShare} g5) ⊢ (owned c oM : sProp 𝕄) from by
    refine BIBase.Entails.trans ?_ (owned_intro c oM g5)
    rw [owns_whole_eq]; iintro H; iexists g5; isplitr; · (ipureintro; rfl)
    iexact H) $$ Hout
  ihave Hout := (owned_split c oM (oR c) (fun _ _ => rfl) (oR_disjoint c) (oR_cover c)) $$ Hout
  ihave Hout := (Entails.of_eq (bigSep_eight _)) $$ Hout
  icases Hout with ⟨Ho0, Ho1, Ho2, Ho3, Ho4, Ho5, Ho6, Ho7⟩
  -- the signals
  rw [k0_part1_eq_skeleton]; unfold k0_part1_skel
  simp only [semSignalWord, semWaitWord, Prog.lift, Prog.bind_op, Prog.bind_ret, Prog.pure_eq_ret, wp_deviceId]
  iapply (wp_sig m ρ K c _ 0 (dev1_eq c) (by decide) (O' := owed c 21) (owed c 20) (owed_sig c 0)) $$ HR HO HtB0 Hg0; iintro HO
  iapply (wp_sig m ρ K c _ 1 (dev2_eq c) (by decide) (O' := owed c 20) (owed c 19) (owed_sig c 1)) $$ HR HO HtB1 Hg1; iintro HO
  iapply (wp_sig m ρ K c _ 2 (dev3_eq c) (by decide) (O' := owed c 19) (owed c 18) (owed_sig c 2)) $$ HR HO HtB2 Hg2; iintro HO
  iapply (wp_sig m ρ K c _ 3 (dev4_eq c) (by decide) (O' := owed c 18) (owed c 17) (owed_sig c 3)) $$ HR HO HtB3 Hg3; iintro HO
  iapply (wp_sig m ρ K c _ 4 (dev5_eq c) (by decide) (O' := owed c 17) (owed c 16) (owed_sig c 4)) $$ HR HO HtB4 Hg4; iintro HO
  rw [k0_part2_eq_skeleton]; unfold k0_part2_skel
  simp only [semSignalWord, semWaitWord, Prog.lift, Prog.bind_op, Prog.bind_ret, Prog.pure_eq_ret]
  iapply (wp_sig m ρ K c _ 5 (dev6_eq c) (by decide) (O' := owed c 16) (owed c 15) (owed_sig c 5)) $$ HR HO HtB5 Hg5; iintro HO
  iapply (wp_sig m ρ K c _ 6 (dev7_eq c) (by decide) (O' := owed c 15) (owed c 14) (owed_sig c 6)) $$ HR HO HtB6 Hg6; iintro HO
  iapply (wp_bar m ρ K c (by decide)) $$ HR Hlev HcB HO HatB
  iintro ⟨HO, HzB, Hb0, Hb1, Hb2, Hb3, Hb4, Hb5, Hb6⟩
  -- the partial result
  iapply (wp_load 𝒱₀ (c : Thread nD τ) none Set.univ (m := xM) (Finset.subset_univ _)) $$ Hx; iintro Hx
  iapply (wp_load 𝒱₀ (c : Thread nD τ) none Set.univ (m := wqM) (Finset.subset_univ _)) $$ Hwq; iintro Hwq
  rw [read_x]
  rw [k0_part3_eq_skeleton]; unfold k0_part3_skel
  simp only [Prog.lift, Prog.bind_op, Prog.bind_ret, Prog.pure_eq_ret]
  rw [k0_part4_eq_skeleton]; unfold k0_part4_skel
  simp only [Prog.lift, Prog.bind_op, Prog.bind_ret, Prog.pure_eq_ret]
  iapply (wp_load 𝒱₀ (c : Thread nD τ) none Set.univ (m := kM) (Finset.subset_univ _)) $$ Hkk; iintro Hkk
  iapply (wp_load 𝒱₀ (c : Thread nD τ) none Set.univ (m := vM) (Finset.subset_univ _)) $$ Hv; iintro Hv
  rw [read_k, read_v]
  rw [k0_part5_eq_skeleton]; unfold k0_part5_skel
  simp only [Prog.lift, Prog.bind_op, Prog.bind_ret, Prog.pure_eq_ret]
  rw [k0_part6_eq_skeleton]; unfold k0_part6_skel
  simp only [Prog.lift, Prog.bind_op, Prog.bind_ret, Prog.pure_eq_ret]
  rw [k0_part7_eq_skeleton]; unfold k0_part7_skel
  simp only [Prog.lift, Prog.bind_op, Prog.bind_ret, Prog.pure_eq_ret]
  iapply (wp_load 𝒱₀ (c : Thread nD τ) none Set.univ (m := woM) (Finset.subset_univ _)) $$ Hwo; iintro Hwo
  iapply (wp_load 𝒱₀ (c : Thread nD τ) none Set.univ (m := pM) (Finset.subset_univ _)) $$ Hp; iintro Hp
  iapply (wp_store_psum m ρ c fp) $$ Hp []
  · ipureintro; rfl
  iintro Hp
  -- its chunks packed
  iapply (wp_pack m ρ c 0 _ rfl) $$ Hp Hc0; iintro ⟨Hp, Hc0⟩
  iapply (wp_pack m ρ c 1 _ rfl) $$ Hp Hc1; iintro ⟨Hp, Hc1⟩
  iapply (wp_pack m ρ c 2 _ rfl) $$ Hp Hc2; iintro ⟨Hp, Hc2⟩
  rw [k0_part8_eq_skeleton]; unfold k0_part8_skel
  simp only [Prog.lift, Prog.bind_op, Prog.bind_ret, Prog.pure_eq_ret]
  iapply (wp_pack m ρ c 3 _ rfl) $$ Hp Hc3; iintro ⟨Hp, Hc3⟩
  iapply (wp_pack m ρ c 4 _ rfl) $$ Hp Hc4; iintro ⟨Hp, Hc4⟩
  iapply (wp_pack m ρ c 5 _ rfl) $$ Hp Hc5; iintro ⟨Hp, Hc5⟩
  iapply (wp_pack m ρ c 6 _ rfl) $$ Hp Hc6; iintro ⟨Hp, Hc6⟩
  rw [k0_part9_eq_skeleton]; unfold k0_part9_skel
  simp only [Prog.lift, Prog.bind_op, Prog.bind_ret, Prog.pure_eq_ret]
  iapply (wp_pack m ρ c 7 _ rfl) $$ Hp Hc7; iintro ⟨Hp, Hc7⟩
  -- the first half
  ihave HR0 := (Entails.of_eq (rsRes.eq_1 c 0)) $$ HR0
  icases HR0 with ⟨HtS0, HtR0, HcR0, HaS0, HaR0⟩
  ihave HR1 := (Entails.of_eq (rsRes.eq_1 c 1)) $$ HR1
  icases HR1 with ⟨HtS1, HtR1, HcR1, HaS1, HaR1⟩
  ihave HR2 := (Entails.of_eq (rsRes.eq_1 c 2)) $$ HR2
  icases HR2 with ⟨HtS2, HtR2, HcR2, HaS2, HaR2⟩
  ihave HR3 := (Entails.of_eq (rsRes.eq_1 c 3)) $$ HR3
  icases HR3 with ⟨HtS3, HtR3, HcR3, HaS3, HaR3⟩
  ihave HR4 := (Entails.of_eq (rsRes.eq_1 c 4)) $$ HR4
  icases HR4 with ⟨HtS4, HtR4, HcR4, HaS4, HaR4⟩
  ihave HR5 := (Entails.of_eq (rsRes.eq_1 c 5)) $$ HR5
  icases HR5 with ⟨HtS5, HtR5, HcR5, HaS5, HaR5⟩
  ihave HR6 := (Entails.of_eq (rsRes.eq_1 c 6)) $$ HR6
  icases HR6 with ⟨HtS6, HtR6, HcR6, HaS6, HaR6⟩
  iapply (wp_rs m ρ K c _ 0 1 rfl (dev8_eq c) (O' := owed c 14) (owed c 13) (owed_rs c 0) rfl rfl rfl rfl) $$ HR Hc1 Hb0 HO HtS0 HtR0; iintro ⟨HcS0, HO⟩
  iapply (wp_rs m ρ K c _ 1 3 rfl (dev9_eq c) (O' := owed c 13) (owed c 12) (owed_rs c 1) rfl rfl rfl rfl) $$ HR Hc3 Hb1 HO HtS1 HtR1; iintro ⟨HcS1, HO⟩
  rw [k0_part10_eq_skeleton]; unfold k0_part10_skel
  simp only [Prog.lift, Prog.bind_op, Prog.bind_ret, Prog.pure_eq_ret]
  iapply (wp_rs m ρ K c _ 2 2 rfl (dev10_eq c) (O' := owed c 12) (owed c 11) (owed_rs c 2) rfl rfl rfl rfl) $$ HR Hc2 Hb2 HO HtS2 HtR2; iintro ⟨HcS2, HO⟩
  iapply (wp_rs m ρ K c _ 3 4 rfl (dev11_eq c) (O' := owed c 11) (owed c 10) (owed_rs c 3) rfl rfl rfl rfl) $$ HR Hc4 Hb3 HO HtS3 HtR3; iintro ⟨HcS3, HO⟩
  iapply (wp_rs m ρ K c _ 4 5 rfl (dev12_eq c) (O' := owed c 10) (owed c 9) (owed_rs c 4) rfl rfl rfl rfl) $$ HR Hc5 Hb4 HO HtS4 HtR4; iintro ⟨HcS4, HO⟩
  rw [k0_part11_eq_skeleton]; unfold k0_part11_skel
  simp only [Prog.lift, Prog.bind_op, Prog.bind_ret, Prog.pure_eq_ret]
  iapply (wp_rs m ρ K c _ 5 7 rfl (dev13_eq c) (O' := owed c 9) (owed c 8) (owed_rs c 5) rfl rfl rfl rfl) $$ HR Hc7 Hb5 HO HtS5 HtR5; iintro ⟨HcS5, HO⟩
  iapply (wp_rs m ρ K c _ 6 6 rfl (dev14_eq c) (O' := owed c 8) (owed c 7) (owed_rs c 6) rfl rfl rfl rfl) $$ HR Hc6 Hb6 HO HtS6 HtR6; iintro ⟨HcS6, HO⟩
  iapply (wp_load_slice c (cR 0) (fun _ => rfl)) $$ Hc0; iintro Hc0
  iapply (wp_wait_cell m ρ K c 0 0 7 (by decide) (by decide) rfl (dst := cC 1) (credit_c 1)) $$ HR Hlev HcS0 HO HaS0; iintro ⟨HO, HzS0, -⟩
  iapply (wp_wait_cell m ρ K c 2 0 7 (by decide) (by decide) rfl (dst := gC 0) (credit_g 0)) $$ HR Hlev HcR0 HO HaR0; iintro ⟨HO, HzR0, Hpay⟩
  ihave Hpay := (open_rs m ρ c 0 (2 : Fin 4).val rfl) $$ Hpay
  icases Hpay with ⟨Hg0, Hd0⟩
  iapply (wp_load_slice c (gR 0) (fun _ => rfl)) $$ Hg0; iintro Hg0
  rw [k0_part12_eq_skeleton]; unfold k0_part12_skel
  simp only [Prog.lift, Prog.bind_op, Prog.bind_ret, Prog.pure_eq_ret]
  iapply (wp_wait_cell m ρ K c 0 1 7 (by decide) (by decide) rfl (dst := cC 3) (credit_c 3)) $$ HR Hlev HcS1 HO HaS1; iintro ⟨HO, HzS1, -⟩
  iapply (wp_wait_cell m ρ K c 2 1 7 (by decide) (by decide) rfl (dst := gC 1) (credit_g 1)) $$ HR Hlev HcR1 HO HaR1; iintro ⟨HO, HzR1, Hpay⟩
  ihave Hpay := (open_rs m ρ c 1 (2 : Fin 4).val rfl) $$ Hpay
  icases Hpay with ⟨Hg1, Hd1⟩
  iapply (wp_load_slice c (gR 1) (fun _ => rfl)) $$ Hg1; iintro Hg1
  iapply (wp_wait_cell m ρ K c 0 2 7 (by decide) (by decide) rfl (dst := cC 2) (credit_c 2)) $$ HR Hlev HcS2 HO HaS2; iintro ⟨HO, HzS2, -⟩
  iapply (wp_wait_cell m ρ K c 2 2 7 (by decide) (by decide) rfl (dst := gC 2) (credit_g 2)) $$ HR Hlev HcR2 HO HaR2; iintro ⟨HO, HzR2, Hpay⟩
  ihave Hpay := (open_rs m ρ c 2 (2 : Fin 4).val rfl) $$ Hpay
  icases Hpay with ⟨Hg2, Hd2⟩
  iapply (wp_load_slice c (gR 2) (fun _ => rfl)) $$ Hg2; iintro Hg2
  rw [k0_part13_eq_skeleton]; unfold k0_part13_skel
  simp only [Prog.lift, Prog.bind_op, Prog.bind_ret, Prog.pure_eq_ret]
  iapply (wp_wait_cell m ρ K c 0 3 7 (by decide) (by decide) rfl (dst := cC 4) (credit_c 4)) $$ HR Hlev HcS3 HO HaS3; iintro ⟨HO, HzS3, -⟩
  iapply (wp_wait_cell m ρ K c 2 3 7 (by decide) (by decide) rfl (dst := gC 3) (credit_g 3)) $$ HR Hlev HcR3 HO HaR3; iintro ⟨HO, HzR3, Hpay⟩
  ihave Hpay := (open_rs m ρ c 3 (2 : Fin 4).val rfl) $$ Hpay
  icases Hpay with ⟨Hg3, Hd3⟩
  iapply (wp_load_slice c (gR 3) (fun _ => rfl)) $$ Hg3; iintro Hg3
  iapply (wp_wait_cell m ρ K c 0 4 7 (by decide) (by decide) rfl (dst := cC 5) (credit_c 5)) $$ HR Hlev HcS4 HO HaS4; iintro ⟨HO, HzS4, -⟩
  rw [k0_part14_eq_skeleton]; unfold k0_part14_skel
  simp only [Prog.lift, Prog.bind_op, Prog.bind_ret, Prog.pure_eq_ret]
  iapply (wp_wait_cell m ρ K c 2 4 7 (by decide) (by decide) rfl (dst := gC 4) (credit_g 4)) $$ HR Hlev HcR4 HO HaR4; iintro ⟨HO, HzR4, Hpay⟩
  ihave Hpay := (open_rs m ρ c 4 (2 : Fin 4).val rfl) $$ Hpay
  icases Hpay with ⟨Hg4, Hd4⟩
  iapply (wp_load_slice c (gR 4) (fun _ => rfl)) $$ Hg4; iintro Hg4
  iapply (wp_wait_cell m ρ K c 0 5 7 (by decide) (by decide) rfl (dst := cC 7) (credit_c 7)) $$ HR Hlev HcS5 HO HaS5; iintro ⟨HO, HzS5, -⟩
  iapply (wp_wait_cell m ρ K c 2 5 7 (by decide) (by decide) rfl (dst := gC 5) (credit_g 5)) $$ HR Hlev HcR5 HO HaR5; iintro ⟨HO, HzR5, Hpay⟩
  ihave Hpay := (open_rs m ρ c 5 (2 : Fin 4).val rfl) $$ Hpay
  icases Hpay with ⟨Hg5, Hd5⟩
  iapply (wp_load_slice c (gR 5) (fun _ => rfl)) $$ Hg5; iintro Hg5
  iapply (wp_wait_cell m ρ K c 0 6 7 (by decide) (by decide) rfl (dst := cC 6) (credit_c 6)) $$ HR Hlev HcS6 HO HaS6; iintro ⟨HO, HzS6, -⟩
  rw [k0_part15_eq_skeleton]; unfold k0_part15_skel
  simp only [Prog.lift, Prog.bind_op, Prog.bind_ret, Prog.pure_eq_ret]
  iapply (wp_wait_cell m ρ K c 2 6 7 (by decide) (by decide) rfl (dst := gC 6) (credit_g 6)) $$ HR Hlev HcR6 HO HaR6; iintro ⟨HO, HzR6, Hpay⟩
  ihave Hpay := (open_rs m ρ c 6 (2 : Fin 4).val rfl) $$ Hpay
  icases Hpay with ⟨Hg6, Hd6⟩
  iapply (wp_load_slice c (gR 6) (fun _ => rfl)) $$ Hg6; iintro Hg6
  -- the sum into slot 0
  iapply (wp_load_slice c (cR 0) (fun _ => rfl)) $$ Hc0; iintro Hc0
  ihave Hc0 := (owned_intro c (cC 0) _) $$ Hc0
  iapply (wp_store_slice_eq c (cR 0) (fun _ => rfl) (tot m ρ c)) $$ Hc0 []
  · ipureintro; rfl
  iintro Hc0
  ihave Hc0 := (show owns (c : Thread nD τ) (cC 0) fullShare (tot m ρ c) ⊢ (owns (c : Thread nD τ) (cC 0) (keep 0) (tot m ρ c) : sProp 𝕄) from BIBase.Entails.rfl) $$ Hc0
  -- the second half
  ihave HA0 := (Entails.of_eq (agRes.eq_1 c 0)) $$ HA0
  icases HA0 with ⟨HtS0, HtR0, HcR0, HaS0, HaR0⟩
  ihave HA1 := (Entails.of_eq (agRes.eq_1 c 1)) $$ HA1
  icases HA1 with ⟨HtS1, HtR1, HcR1, HaS1, HaR1⟩
  ihave HA2 := (Entails.of_eq (agRes.eq_1 c 2)) $$ HA2
  icases HA2 with ⟨HtS2, HtR2, HcR2, HaS2, HaR2⟩
  ihave HA3 := (Entails.of_eq (agRes.eq_1 c 3)) $$ HA3
  icases HA3 with ⟨HtS3, HtR3, HcR3, HaS3, HaR3⟩
  ihave HA4 := (Entails.of_eq (agRes.eq_1 c 4)) $$ HA4
  icases HA4 with ⟨HtS4, HtR4, HcR4, HaS4, HaR4⟩
  ihave HA5 := (Entails.of_eq (agRes.eq_1 c 5)) $$ HA5
  icases HA5 with ⟨HtS5, HtR5, HcR5, HaS5, HaR5⟩
  ihave HA6 := (Entails.of_eq (agRes.eq_1 c 6)) $$ HA6
  icases HA6 with ⟨HtS6, HtR6, HcR6, HaS6, HaR6⟩
  iapply (wp_ag m ρ K c _ 0 1 rfl 0 1 rfl rfl (dev15_eq c) (O' := owed c 7) (owed c 6) (owed_ag c 0) rfl rfl rfl rfl) $$ HR Hc0 Hd0 HO HtS0 HtR0; iintro ⟨HcS0, HO, Hc0⟩
  rw [k0_part16_eq_skeleton]; unfold k0_part16_skel
  simp only [Prog.lift, Prog.bind_op, Prog.bind_ret, Prog.pure_eq_ret]
  iapply (wp_ag m ρ K c _ 1 3 rfl 1 2 rfl rfl (dev16_eq c) (O' := owed c 6) (owed c 5) (owed_ag c 1) rfl rfl rfl rfl) $$ HR Hc0 Hd1 HO HtS1 HtR1; iintro ⟨HcS1, HO, Hc0⟩
  iapply (wp_ag m ρ K c _ 2 2 rfl 2 3 rfl rfl (dev17_eq c) (O' := owed c 5) (owed c 4) (owed_ag c 2) rfl rfl rfl rfl) $$ HR Hc0 Hd2 HO HtS2 HtR2; iintro ⟨HcS2, HO, Hc0⟩
  iapply (wp_ag m ρ K c _ 3 4 rfl 3 4 rfl rfl (dev18_eq c) (O' := owed c 4) (owed c 3) (owed_ag c 3) rfl rfl rfl rfl) $$ HR Hc0 Hd3 HO HtS3 HtR3; iintro ⟨HcS3, HO, Hc0⟩
  iapply (wp_ag m ρ K c _ 4 5 rfl 4 5 rfl rfl (dev19_eq c) (O' := owed c 3) (owed c 2) (owed_ag c 4) rfl rfl rfl rfl) $$ HR Hc0 Hd4 HO HtS4 HtR4; iintro ⟨HcS4, HO, Hc0⟩
  rw [k0_part17_eq_skeleton]; unfold k0_part17_skel
  simp only [Prog.lift, Prog.bind_op, Prog.bind_ret, Prog.pure_eq_ret]
  iapply (wp_ag m ρ K c _ 5 7 rfl 5 6 rfl rfl (dev20_eq c) (O' := owed c 2) (owed c 1) (owed_ag c 5) rfl rfl rfl rfl) $$ HR Hc0 Hd5 HO HtS5 HtR5; iintro ⟨HcS5, HO, Hc0⟩
  iapply (wp_ag m ρ K c _ 6 6 rfl 6 7 rfl rfl (dev21_eq c) (O' := owed c 1) (owed c 0) (owed_ag c 6) rfl rfl rfl rfl) $$ HR Hc0 Hd6 HO HtS6 HtR6; iintro ⟨HcS6, HO, Hc0⟩
  -- the output
  iapply (wp_out c 0 0 _ (off4_eq c) (keep 7) (tot m ρ c)) $$ Hc0 Ho0; iintro ⟨Hc0, Ho0⟩
  iapply (wp_wait_cell m ρ K c 1 0 0 (by decide) (by decide) rfl (dst := cC 0) (credit_c 0)) $$ HR Hlev HcS0 HO HaS0; iintro ⟨HO, HyS0, Hl0⟩
  ihave Hl0 := (open_back m ρ c 0 (1 : Fin 4).val 0 rfl rfl) $$ Hl0
  rw [k0_part18_eq_skeleton]; unfold k0_part18_skel
  simp only [Prog.lift, Prog.bind_op, Prog.bind_ret, Prog.pure_eq_ret]
  iapply (wp_wait_cell m ρ K c 3 0 0 (by decide) (by decide) rfl (dst := cC 1) (credit_c 1)) $$ HR Hlev HcR0 HO HaR0; iintro ⟨HO, HyR0, Hc1⟩
  ihave Hc1 := (open_ag m ρ c 0 (3 : Fin 4).val 1 rfl rfl) $$ Hc1
  iapply (wp_out c 1 1 _ rfl fullShare (tot m ρ (peer 0 c))) $$ Hc1 Ho1; iintro ⟨Hc1, Ho1⟩
  iapply (wp_wait_cell m ρ K c 1 1 0 (by decide) (by decide) rfl (dst := cC 0) (credit_c 0)) $$ HR Hlev HcS1 HO HaS1; iintro ⟨HO, HyS1, Hl1⟩
  ihave Hl1 := (open_back m ρ c 1 (1 : Fin 4).val 1 rfl rfl) $$ Hl1
  iapply (wp_wait_cell m ρ K c 3 1 0 (by decide) (by decide) rfl (dst := cC 3) (credit_c 3)) $$ HR Hlev HcR1 HO HaR1; iintro ⟨HO, HyR1, Hc3⟩
  ihave Hc3 := (open_ag m ρ c 1 (3 : Fin 4).val 3 rfl rfl) $$ Hc3
  iapply (wp_out c 3 3 _ rfl fullShare (tot m ρ (peer 1 c))) $$ Hc3 Ho3; iintro ⟨Hc3, Ho3⟩
  rw [k0_part19_eq_skeleton]; unfold k0_part19_skel
  simp only [Prog.lift, Prog.bind_op, Prog.bind_ret, Prog.pure_eq_ret]
  iapply (wp_wait_cell m ρ K c 1 2 0 (by decide) (by decide) rfl (dst := cC 0) (credit_c 0)) $$ HR Hlev HcS2 HO HaS2; iintro ⟨HO, HyS2, Hl2⟩
  ihave Hl2 := (open_back m ρ c 2 (1 : Fin 4).val 2 rfl rfl) $$ Hl2
  iapply (wp_wait_cell m ρ K c 3 2 0 (by decide) (by decide) rfl (dst := cC 2) (credit_c 2)) $$ HR Hlev HcR2 HO HaR2; iintro ⟨HO, HyR2, Hc2⟩
  ihave Hc2 := (open_ag m ρ c 2 (3 : Fin 4).val 2 rfl rfl) $$ Hc2
  iapply (wp_out c 2 2 _ rfl fullShare (tot m ρ (peer 2 c))) $$ Hc2 Ho2; iintro ⟨Hc2, Ho2⟩
  iapply (wp_wait_cell m ρ K c 1 3 0 (by decide) (by decide) rfl (dst := cC 0) (credit_c 0)) $$ HR Hlev HcS3 HO HaS3; iintro ⟨HO, HyS3, Hl3⟩
  ihave Hl3 := (open_back m ρ c 3 (1 : Fin 4).val 3 rfl rfl) $$ Hl3
  rw [k0_part20_eq_skeleton]; unfold k0_part20_skel
  simp only [Prog.lift, Prog.bind_op, Prog.bind_ret, Prog.pure_eq_ret]
  iapply (wp_wait_cell m ρ K c 3 3 0 (by decide) (by decide) rfl (dst := cC 4) (credit_c 4)) $$ HR Hlev HcR3 HO HaR3; iintro ⟨HO, HyR3, Hc4⟩
  ihave Hc4 := (open_ag m ρ c 3 (3 : Fin 4).val 4 rfl rfl) $$ Hc4
  iapply (wp_out c 4 4 _ rfl fullShare (tot m ρ (peer 3 c))) $$ Hc4 Ho4; iintro ⟨Hc4, Ho4⟩
  iapply (wp_wait_cell m ρ K c 1 4 0 (by decide) (by decide) rfl (dst := cC 0) (credit_c 0)) $$ HR Hlev HcS4 HO HaS4; iintro ⟨HO, HyS4, Hl4⟩
  ihave Hl4 := (open_back m ρ c 4 (1 : Fin 4).val 4 rfl rfl) $$ Hl4
  iapply (wp_wait_cell m ρ K c 3 4 0 (by decide) (by decide) rfl (dst := cC 5) (credit_c 5)) $$ HR Hlev HcR4 HO HaR4; iintro ⟨HO, HyR4, Hc5⟩
  ihave Hc5 := (open_ag m ρ c 4 (3 : Fin 4).val 5 rfl rfl) $$ Hc5
  iapply (wp_out c 5 5 _ rfl fullShare (tot m ρ (peer 4 c))) $$ Hc5 Ho5; iintro ⟨Hc5, Ho5⟩
  rw [k0_part21_eq_skeleton]; unfold k0_part21_skel
  simp only [Prog.lift, Prog.bind_op, Prog.bind_ret, Prog.pure_eq_ret]
  iapply (wp_wait_cell m ρ K c 1 5 0 (by decide) (by decide) rfl (dst := cC 0) (credit_c 0)) $$ HR Hlev HcS5 HO HaS5; iintro ⟨HO, HyS5, Hl5⟩
  ihave Hl5 := (open_back m ρ c 5 (1 : Fin 4).val 5 rfl rfl) $$ Hl5
  iapply (wp_wait_cell m ρ K c 3 5 0 (by decide) (by decide) rfl (dst := cC 7) (credit_c 7)) $$ HR Hlev HcR5 HO HaR5; iintro ⟨HO, HyR5, Hc7⟩
  ihave Hc7 := (open_ag m ρ c 5 (3 : Fin 4).val 7 rfl rfl) $$ Hc7
  iapply (wp_out c 7 7 _ rfl fullShare (tot m ρ (peer 5 c))) $$ Hc7 Ho7; iintro ⟨Hc7, Ho7⟩
  iapply (wp_wait_cell m ρ K c 1 6 0 (by decide) (by decide) rfl (dst := cC 0) (credit_c 0)) $$ HR Hlev HcS6 HO HaS6; iintro ⟨HO, HyS6, Hl6⟩
  ihave Hl6 := (open_back m ρ c 6 (1 : Fin 4).val 6 rfl rfl) $$ Hl6
  iapply (wp_wait_cell m ρ K c 3 6 0 (by decide) (by decide) rfl (dst := cC 6) (credit_c 6)) $$ HR Hlev HcR6 HO HaR6; iintro ⟨HO, HyR6, Hc6⟩
  ihave Hc6 := (open_ag m ρ c 6 (3 : Fin 4).val 6 rfl rfl) $$ Hc6
  iapply (wp_out c 6 6 _ rfl fullShare (tot m ρ (peer 6 c))) $$ Hc6 Ho6; iintro ⟨Hc6, Ho6⟩
  rw [wp_ret]; imodintro
  -- slot 0 whole again
  ihave Hc0 := (keep_join c 6 (tot m ρ c)) $$ [Hl6 Hc0]
  · isplitl [Hl6] <;> iassumption
  ihave Hc0 := (keep_join c 5 (tot m ρ c)) $$ [Hl5 Hc0]
  · isplitl [Hl5] <;> iassumption
  ihave Hc0 := (keep_join c 4 (tot m ρ c)) $$ [Hl4 Hc0]
  · isplitl [Hl4] <;> iassumption
  ihave Hc0 := (keep_join c 3 (tot m ρ c)) $$ [Hl3 Hc0]
  · isplitl [Hl3] <;> iassumption
  ihave Hc0 := (keep_join c 2 (tot m ρ c)) $$ [Hl2 Hc0]
  · isplitl [Hl2] <;> iassumption
  ihave Hc0 := (keep_join c 1 (tot m ρ c)) $$ [Hl1 Hc0]
  · isplitl [Hl1] <;> iassumption
  ihave Hc0 := (keep_join c 0 (tot m ρ c)) $$ [Hl0 Hc0]
  · isplitl [Hl0] <;> iassumption
  ihave Hc0 := (show owns (c : Thread nD τ) (cC 0) (keep 0) (tot m ρ c) ⊢ (owned c (cC 0) : sProp 𝕄) from owned_intro c (cC 0) _) $$ Hc0
  ihave Hc1 := (owned_intro c (cC 1) _) $$ Hc1
  ihave Hc2 := (owned_intro c (cC 2) _) $$ Hc2
  ihave Hc3 := (owned_intro c (cC 3) _) $$ Hc3
  ihave Hc4 := (owned_intro c (cC 4) _) $$ Hc4
  ihave Hc5 := (owned_intro c (cC 5) _) $$ Hc5
  ihave Hc6 := (owned_intro c (cC 6) _) $$ Hc6
  ihave Hc7 := (owned_intro c (cC 7) _) $$ Hc7
  ihave Hg0 := (owned_intro c (gC 0) _) $$ Hg0
  ihave Hg1 := (owned_intro c (gC 1) _) $$ Hg1
  ihave Hg2 := (owned_intro c (gC 2) _) $$ Hg2
  ihave Hg3 := (owned_intro c (gC 3) _) $$ Hg3
  ihave Hg4 := (owned_intro c (gC 4) _) $$ Hg4
  ihave Hg5 := (owned_intro c (gC 5) _) $$ Hg5
  ihave Hg6 := (owned_intro c (gC 6) _) $$ Hg6
  ihave Ho0 := (out_chunk m ρ c 0 c ((congrArg owner (chunk_zero c)).trans (owner_vr c)) k0_pay39 rfl) $$ Ho0
  ihave Ho1 := (out_chunk m ρ c 1 (peer 0 c) ((congrArg owner (chunk_slot 0 c)).trans (owner_vr _)) k0_pay40 rfl) $$ Ho1
  ihave Ho3 := (out_chunk m ρ c 3 (peer 1 c) ((congrArg owner (chunk_slot 1 c)).trans (owner_vr _)) k0_pay41 rfl) $$ Ho3
  ihave Ho2 := (out_chunk m ρ c 2 (peer 2 c) ((congrArg owner (chunk_slot 2 c)).trans (owner_vr _)) k0_pay42 rfl) $$ Ho2
  ihave Ho4 := (out_chunk m ρ c 4 (peer 3 c) ((congrArg owner (chunk_slot 3 c)).trans (owner_vr _)) k0_pay43 rfl) $$ Ho4
  ihave Ho5 := (out_chunk m ρ c 5 (peer 4 c) ((congrArg owner (chunk_slot 4 c)).trans (owner_vr _)) k0_pay44 rfl) $$ Ho5
  ihave Ho7 := (out_chunk m ρ c 7 (peer 5 c) ((congrArg owner (chunk_slot 5 c)).trans (owner_vr _)) k0_pay45 rfl) $$ Ho7
  ihave Ho6 := (out_chunk m ρ c 6 (peer 6 c) ((congrArg owner (chunk_slot 6 c)).trans (owner_vr _)) k0_pay1 rfl) $$ Ho6
  unfold bodyPost Φ₁ scratch Dat.owesAt Pipeline.owesWithin
  rw [bigSep_seven, bigSep_seven]
  isplitl [Hp Hc0 Hc1 Hc2 Hc3 Hc4 Hc5 Hc6 Hc7 Hg0 Hg1 Hg2 Hg3 Hg4 Hg5 Hg6 HzB HzS0 HzR0 HzS1 HzR1 HzS2 HzR2 HzS3 HzR3 HzS4 HzR4 HzS5 HzR5 HzS6 HzR6 HyS0 HyR0 HyS1 HyR1 HyS2 HyR2 HyS3 HyR3 HyS4 HyR4 HyS5 HyR5 HyS6 HyR6]
  · isplitl [Hp Hc0 Hc1 Hc2 Hc3 Hc4 Hc5 Hc6 Hc7 Hg0 Hg1 Hg2 Hg3 Hg4 Hg5 Hg6]
    · isplitl [Hp]; · iexists (psum m ρ c); unfold pPts; iexact Hp
      isplitl [Hc0 Hc1 Hc2 Hc3 Hc4 Hc5 Hc6 Hc7]
      · iapply (owned_join c cM cR (fun _ _ => rfl) cR_disjoint cR_cover)
        rw [bigSep_eight]
        isplitl [Hc0]; · iexact Hc0
        isplitl [Hc1]; · iexact Hc1
        isplitl [Hc2]; · iexact Hc2
        isplitl [Hc3]; · iexact Hc3
        isplitl [Hc4]; · iexact Hc4
        isplitl [Hc5]; · iexact Hc5
        isplitl [Hc6]; · iexact Hc6
        iexact Hc7
      · iapply (owned_join c gM gR (fun _ _ => rfl) gR_disjoint gR_cover)
        rw [bigSep_seven]
        isplitl [Hg0]; · iexact Hg0
        isplitl [Hg1]; · iexact Hg1
        isplitl [Hg2]; · iexact Hg2
        isplitl [Hg3]; · iexact Hg3
        isplitl [Hg4]; · iexact Hg4
        isplitl [Hg5]; · iexact Hg5
        iexact Hg6
    isplitl [HzB]; · iexact HzB
    isplitl [HzS0 HzR0 HzS1 HzR1 HzS2 HzR2 HzS3 HzR3 HzS4 HzR4 HzS5 HzR5 HzS6 HzR6]
    · isplitl [HzS0 HzR0]; · isplitl [HzS0] <;> iassumption
      isplitl [HzS1 HzR1]; · isplitl [HzS1] <;> iassumption
      isplitl [HzS2 HzR2]; · isplitl [HzS2] <;> iassumption
      isplitl [HzS3 HzR3]; · isplitl [HzS3] <;> iassumption
      isplitl [HzS4 HzR4]; · isplitl [HzS4] <;> iassumption
      isplitl [HzS5 HzR5]; · isplitl [HzS5] <;> iassumption
      isplitl [HzS6] <;> iassumption
    · isplitl [HyS0 HyR0]; · isplitl [HyS0] <;> iassumption
      isplitl [HyS1 HyR1]; · isplitl [HyS1] <;> iassumption
      isplitl [HyS2 HyR2]; · isplitl [HyS2] <;> iassumption
      isplitl [HyS3 HyR3]; · isplitl [HyS3] <;> iassumption
      isplitl [HyS4 HyR4]; · isplitl [HyS4] <;> iassumption
      isplitl [HyS5 HyR5]; · isplitl [HyS5] <;> iassumption
      isplitl [HyS6] <;> iassumption
  isplitl [HO]
  · unfold owing
    icases HO with ⟨%W', HO⟩
    iexists W'; isplitr; · (ipureintro; exact fun _ _ => Or.inl trivial)
    iexact HO
  isplitl [Hx]
  · iexists _; isplitr; · (ipureintro; rfl)
    iexact Hx
  isplitl [Hwq]
  · iexists _; isplitr; · (ipureintro; rfl)
    iexact Hwq
  isplitl [Hkk]
  · iexists _; isplitr; · (ipureintro; rfl)
    iexact Hkk
  isplitl [Hv]
  · iexists _; isplitr; · (ipureintro; rfl)
    iexact Hv
  isplitl [Hwo]
  · iexists _; isplitr; · (ipureintro; rfl)
    iexact Hwo
  iapply (Entails.of_eq (owns_whole_eq c cc0_stg5_0 (outAll m ρ)))
  iapply (owns_of_rects (c : Thread nD τ) oM fullShare (oR c) (fun _ _ => rfl) (oR_disjoint c) (oR_cover c) (outAll m ρ))
  rw [bigSep_eight]
  isplitl [Ho0]; · iexact Ho0
  isplitl [Ho1]; · iexact Ho1
  isplitl [Ho2]; · iexact Ho2
  isplitl [Ho3]; · iexact Ho3
  isplitl [Ho4]; · iexact Ho4
  isplitl [Ho5]; · iexact Ho5
  isplitl [Ho6]; · iexact Ho6
  iexact Ho7

end Cert.KernelIdeal.Exchange

end
-- ==== Proof.KernelIdeal.Launch.lean ====
/-
# The launch

From what the launch deals each device to what its body starts from: the cells' records made for all devices at once, each
duty's token handed to the device that pays it, and the credit of what the partners owe; then the run of the whole program.
-/
module

public import proofs.«01_k».proof.Proof.KernelIdeal.Body
public import Idealize.ShloMosaic.Lib.Pipeline.Launch
public import Idealize.ShloMosaic.Lib.Pipeline.Kit
public import Idealize.ShloMosaic.Lib.Pipeline.CollectiveSegs

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The body under the pipeline -/

omit [FloatOps F] in
theorem windows_each (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) :=
  bigSep_W0 Φ

set_option maxRecDepth 40000 in
/-- The body at the grid's one point, as the pipeline asks for it. -/
theorem body_obligation (c : Dev nD) : BodyObligation (dats (F := F) m ρ 0 c) (defs₀ (F := F)) 𝒱₀ () Set.univ := fun t => by
  rw [fin_N0 t, windows_each, windows_each]
  simp only [owns_whole_eq]
  show bodyPre m ρ c ⊢ wp frame (wpE (defs₀ (F := F)) 𝒱₀ (c : Thread nD τ) none) Set.univ _ (fun _ => bodyPost m ρ c)
  exact body_run m ρ c

theorem kernelSems : Pipeline.OwnSemFacts cfg0.spec osem := by decide

theorem share_full (c : Dev nD) (w : Fin cfg0.W) : (dats m ρ 0 c).share w = fullShare := by unfold Dat.share; split <;> rfl

/-! ## Cells and tokens as the launch makes them -/

theorem kcell_injective : Function.Injective (kcell : Dev nD × CellIx → GSem nD τ sig) := by
  rintro ⟨c, x⟩ ⟨d, y⟩ h
  obtain rfl : c = d := congrArg (fun g : GSem nD τ sig => g.1.1) h
  exact congrArg _ (csem_injective (congrArg Prod.snd h))
def cells : Finset (GSem nD τ sig) := Finset.univ.map ⟨kcell, kcell_injective⟩

/-- The duties: seven of a barrier cell, one of each copy cell. -/
abbrev DutyIx : Type := Fin 7 ⊕ (Fin 4 × Fin 7)
abbrev dutyOf (cx : Dev nD × DutyIx) : GSem nD τ sig × ℕ × Fin 7 := match cx.2 with
  | .inl i => (barCell cx.1, 0, i)
  | .inr ki => (dmaCell cx.1 ki.1 ki.2, 0, 0)
theorem dutyOf_injective : Function.Injective dutyOf := by
  rintro ⟨c, x⟩ ⟨d, y⟩ h
  obtain rfl : c = d := by
    have h1 := congrArg (fun t : GSem nD τ sig × ℕ × Fin 7 => t.1.1.1) h
    rcases x with i | a <;> rcases y with j | b <;> exact h1
  rcases x with i | a <;> rcases y with j | b
  · have h2 : i = j := congrArg (fun t : GSem nD τ sig × ℕ × Fin 7 => t.2.2) h
    rw [h2]
  · cases congrArg (fun t : GSem nD τ sig × ℕ × Fin 7 => t.1.2) h
  · cases congrArg (fun t : GSem nD τ sig × ℕ × Fin 7 => t.1.2) h
  · have h2 : osem a = osem b := congrArg (fun t : GSem nD τ sig × ℕ × Fin 7 => t.1.2) h
    rw [osem_injective h2]
def minted : Finset (GSem nD τ sig × ℕ × Fin 7) := Finset.univ.map ⟨dutyOf, dutyOf_injective⟩

/-- The launch element: the staging cells' and the exchange's. -/
def u₀ : UU := (initOf (Pipeline.cells cfgs cellOf_inj) (Pipeline.launchToks cfgs cellOf_inj), initOf cells minted)

/-- The tokens of device `c`'s own cells. -/
def ownToks (c : Dev nD) : sProp 𝕄 :=
  iprop((bigSep Finset.univ fun i : Fin 7 => dutyTok ER (barCell c) 0 i)
    ∗ bigSep Finset.univ fun ki : Fin 4 × Fin 7 => dutyTok ER (dmaCell c ki.1 ki.2) 0 0)
/-- The tokens of the duties device `c` pays. -/
def paidToks (c : Dev nD) : sProp 𝕄 :=
  iprop((bigSep Finset.univ fun i : Fin 7 => dutyTok ER (barCell (peer i c)) 0 i)
    ∗ (bigSep Finset.univ fun i : Fin 7 => dutyTok ER (dmaCell c 0 i) 0 0) ∗ (bigSep Finset.univ fun i : Fin 7 => dutyTok ER (dmaCell c 1 i) 0 0)
    ∗ (bigSep Finset.univ fun i : Fin 7 => dutyTok ER (dmaCell (peer i c) 2 i) 0 0) ∗ bigSep Finset.univ fun i : Fin 7 => dutyTok ER (dmaCell (peer i c) 3 i) 0 0)
/-- Its positions at its cells. -/
def places (c : Dev nD) : sProp 𝕄 := bigSep Finset.univ fun x : CellIx => atPos ER (kcell (c, x)) 0 ∅ 0

/-- What the launch element deals device `c`, -/
def G (c : Dev nD) : sProp 𝕄 :=
  iprop((bigSep Finset.univ fun x : CellIx => roundState ER (sched m ρ) (kcell (c, x)) 0) ∗ places c
    ∗ (bigSep Finset.univ fun x : CellIx => reached ER (kcell (c, x)) 0) ∗ ownToks c)
/-- and what the devices hold once their cells are shared. -/
def G' (c : Dev nD) : sProp 𝕄 := iprop((∃ K, records m ρ K) ∗ places c ∗ paidToks c)

omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_unit (Φ : Unit → sProp 𝕄) : bigSep Finset.univ Φ = Φ () := bigSep_univ_eq_bigSepL [()] (by decide) (by decide) Φ

omit [FloatOps F] in
/-- A family over the cells, the barrier first and then kind by kind. -/
theorem bigSep_cells (Φ : CellIx → sProp 𝕄) : bigSep Finset.univ Φ = iprop(Φ (.inl ()) ∗ (bigSep Finset.univ fun i : Fin 7 => Φ (.inr (0, i)))
    ∗ (bigSep Finset.univ fun i : Fin 7 => Φ (.inr (1, i))) ∗ (bigSep Finset.univ fun i : Fin 7 => Φ (.inr (2, i))) ∗ bigSep Finset.univ fun i : Fin 7 => Φ (.inr (3, i))) := by
  rw [bigSep_univ_sum, bigSep_unit, bigSep_univ_prod, bigSep_four]; rfl

/-- The launch element, dealt device by device. -/
theorem deal : BI.own (ER (initOf cells minted)) ⊢ (|==> bigSep Finset.univ (G m ρ) : sProp 𝕄) := by
  have hC (Φ : GSem nD τ sig → sProp 𝕄) : bigSep cells Φ = bigSep Finset.univ fun c : Dev nD => bigSep Finset.univ fun x : CellIx => Φ (kcell (c, x)) := by
    unfold cells; rw [bigSep_map, bigSep_univ_prod]; rfl
  have hT : bigSep minted (fun t => (dutyTok ER t.1 t.2.1 t.2.2 : sProp 𝕄)) = bigSep Finset.univ fun c : Dev nD => ownToks c := by
    unfold minted; rw [bigSep_map, bigSep_univ_prod]
    exact bigSep_congr fun c _ => by unfold ownToks; rw [bigSep_univ_sum]; rfl
  unfold G places; simp only [bigSep_sep']
  iintro HX
  imod (Rounds.fund ER (sched m ρ) cells minted) $$ HX with ⟨Hst, Hr, Hat, Htok⟩
  imodintro
  isplitl [Hst]; · iapply (Entails.of_eq (hC fun g => roundState ER (sched m ρ) g 0)); iexact Hst
  isplitl [Hat]; · iapply (Entails.of_eq (hC fun g => atPos ER g 0 ∅ 0)); iexact Hat
  isplitl [Hr]; · iapply (Entails.of_eq (hC fun g => reached ER g 0)); iexact Hr
  iapply (Entails.of_eq hT); iexact Htok

/-! ## The counters -/

omit [FloatOps F] in
theorem barrier_sem (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's counters, cell by cell. -/
theorem counters (c : Dev nD) :
    (bigSep Finset.univ fun x : CellIx => semVal (kcell (c, x)) 0 : sProp 𝕄)
      = iprop(unscopedSems0 c ∗ Pipeline.ownSems0 (Ix := Unit) (Name := ℕ) (U := UU) (Lvl := ℕ) (Val := Elt F) (τ := τ) osem c) := by
  rw [bigSep_univ_sum, bigSep_unit, barrier_sem]; rfl

/-- One device's cells become shared records. -/
theorem alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun x : CellIx => iprop(∃ κ : ℕ, cellInv ER (sched m ρ) κ (kcell (c, x))))
          ∗ places c ∗ (bigSep Finset.univ fun x : CellIx => reached ER (kcell (c, x)) 0) ∗ ownToks c) := by
  have hinv : iprop((bigSep Finset.univ fun x : CellIx => semVal (kcell (c, x)) 0) ∗ bigSep Finset.univ fun x : CellIx => roundState ER (sched m ρ) (kcell (c, x)) 0)
      ⊢ (|={Set.univ}=> bigSep Finset.univ fun x : CellIx => iprop(∃ κ : ℕ, cellInv ER (sched m ρ) κ (kcell (c, x))) : sProp 𝕄) := by
    rw [← bigSep_sep']
    exact (bigSep_mono fun x _ => (Rounds.body_intro ER (sched m ρ) (kcell (c, x))).trans inv_alloc).trans (bigSep_fupd _ _)
  unfold G
  iintro ⟨Hos, Hus, Hst, Hat, Hr, Htok⟩
  ihave Hv := (Entails.of_eq (counters (F := F) c).symm) $$ [Hos Hus]
  · isplitl [Hus] <;> iassumption
  imod hinv $$ [Hv Hst] with Hinv
  · isplitl [Hv] <;> iassumption
  imodintro
  isplitl [Hinv]; · iexact Hinv
  isplitl [Hat]; · iexact Hat
  isplitl [Hr] <;> iassumption

/-! ## The tokens handed to the partners -/

/-- A device with a mask against the partner with that mask. -/
def across : Dev nD × Fin 7 ≃ Dev nD × Fin 7 :=
  ⟨fun p => (peer p.2 p.1, p.2), fun p => (peer p.2 p.1, p.2), fun p => Prod.ext (peer_peer p.2 p.1) rfl, fun p => Prod.ext (peer_peer p.2 p.1) rfl⟩

omit [FloatOps F] in
/-- What each device holds per mask may be held by its partner of that mask instead. -/
theorem hand_over (Φ : Dev nD → Fin 7 → sProp 𝕄) :
    (bigSep Finset.univ fun c : Dev nD => bigSep Finset.univ fun i : Fin 7 => Φ c i)
      = bigSep Finset.univ fun c : Dev nD => bigSep Finset.univ fun i : Fin 7 => Φ (peer i c) i := by
  rw [← bigSep_univ_prod (fun p : Dev nD × Fin 7 => Φ p.1 p.2), bigSep_univ_equiv across, bigSep_univ_prod]; rfl

omit [FloatOps F] in
theorem tokens_out : (bigSep Finset.univ fun c : Dev nD => (ownToks c : sProp 𝕄)) ⊢ bigSep Finset.univ fun c : Dev nD => paidToks c := by
  unfold ownToks paidToks
  simp only [bigSep_sep', bigSep_univ_prod, bigSep_four]
  rw [hand_over fun c i => dutyTok ER (barCell c) 0 i, hand_over fun c i => dutyTok ER (dmaCell c 2 i) 0 0, hand_over fun c i => dutyTok ER (dmaCell c 3 i) 0 0]

omit [FloatOps F] in
theorem spread {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The records of all devices, one family. -/
theorem gather :
    (bigSep Finset.univ fun c : Dev nD => iprop((bigSep Finset.univ fun x : CellIx => iprop(∃ κ : ℕ, cellInv ER (sched m ρ) κ (kcell (c, x))))
          ∗ places c ∗ (bigSep Finset.univ fun x : CellIx => reached ER (kcell (c, x)) 0) ∗ ownToks c) : sProp 𝕄)
      ⊢ bigSep Finset.univ (G' m ρ) := by
  rw [bigSep_sep', bigSep_sep', bigSep_sep', ← bigSep_univ_prod (fun cx : Dev nD × CellIx => iprop(∃ κ : ℕ, cellInv ER (sched m ρ) κ (kcell cx))),
    ← bigSep_univ_prod (fun cx : Dev nD × CellIx => (reached ER (kcell cx) 0 : sProp 𝕄))]
  iintro ⟨HI, Hat, #HR, Htok⟩
  ihave HK := (BI.bigSep_exists_pi Finset.univ (fun (cx : Dev nD × CellIx) (κ : ℕ) => (cellInv ER (sched m ρ) κ (kcell cx) : sProp 𝕄))) $$ HI
  icases HK with ⟨%K, #HI⟩
  ihave Htk := (tokens_out (F := F)) $$ Htok
  iapply (spread (R := records m ρ K) (Φ := fun c => iprop(places c ∗ paidToks c)) fun c _ => by
    unfold G'
    iintro ⟨#H, H2, H3⟩
    isplitr; · (iexists K; iexact H)
    isplitl [H2] <;> iassumption)
  isplitr
  · unfold records; isplitl; · iexact HI
    iexact HR
  · rw [bigSep_sep']
    isplitl [Hat] <;> iassumption

/-- Every device's counters and dealt share become shared records, positions and tokens. -/
theorem share_cells : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => alloc m ρ c).trans (bigSep_fupd _ _)).trans (BI.fupd_mono (gather m ρ))

/-! ## The credit of what the partners owe -/

/-- Payment `j`'s mask, -/
def maskAt (j : Fin 21) : Fin 7 := ⟨j.val % 7, Nat.mod_lt _ (by decide)⟩
/-- and which of the partner's cells it goes to. -/
def cellAt (j : Fin 21) : CellIx := if j.val < 7 then .inl () else if j.val < 14 then .inr (2, maskAt j) else .inr (3, maskAt j)
theorem debtCell_eq (d : Dev nD) (j : Fin 21) : debtCell d j.val = kcell (peer (maskAt j) d, cellAt j) := by
  revert d j; decide +kernel

/-- All a device owes is the sum of its payments. -/
theorem owed_sum (d : Dev nD) (g : GSem nD τ sig) : O₀ d g () = ∑ j : Fin 21, if g = debtCell d j.val then debtAmt j.val else 0 := by
  have h : ∀ n, owed d n g () = ∑ i ∈ Finset.range n, if g = debtCell d (20 - i) then debtAmt (20 - i) else 0 := fun n => by
    induction n with
    | zero => rfl
    | succ n ih =>
      unfold owed
      rw [Pi.add_apply, Finsupp.add_apply, tallyAt_apply, Finset.sum_range_succ, ih]
      simp only [and_true]
  rw [h 21, Finset.sum_range, ← Equiv.sum_comp Fin.revPerm fun j : Fin 21 => if g = debtCell d j.val then debtAmt j.val else 0]
  refine Finset.sum_congr rfl fun j _ => ?_
  have hj : (Fin.revPerm j).val = 20 - j.val := by rw [Fin.revPerm_apply, Fin.val_rev]; omega
  rw [hj]

/-- What all devices together owe one cell of device `c`. -/
theorem owed_cell (c : Dev nD) (x : CellIx) : (∑ d : Dev nD, O₀ d (kcell (c, x)) ()) = ∑ j : Fin 21, if x = cellAt j then debtAmt j.val else 0 := by
  rw [Finset.sum_congr rfl fun d _ => owed_sum d _, Finset.sum_comm]
  refine Finset.sum_congr rfl fun j _ => ?_
  rw [Finset.sum_congr rfl (g := fun d => if peer (maskAt j) c = d then (if x = cellAt j then debtAmt j.val else 0) else 0) fun d _ => by
    rw [debtCell_eq]
    by_cases hd : peer (maskAt j) c = d
    · subst hd
      rw [if_pos rfl, peer_peer]
      by_cases hx : x = cellAt j
      · rw [if_pos hx, hx, if_pos rfl]
      · rw [if_neg hx, if_neg fun h => hx (congrArg Prod.snd (kcell_injective h))]
    · rw [if_neg hd, if_neg fun h => hd (by
        have h1 : c = peer (maskAt j) d := congrArg Prod.fst (kcell_injective h)
        rw [h1, peer_peer])]]
  rw [Finset.sum_ite_eq, if_pos (Finset.mem_univ _)]

/-- A barrier cell is owed seven units, -/
theorem owed_at_bar : (∑ j : Fin 21, if (.inl () : CellIx) = cellAt j then debtAmt j.val else 0) = 7 := by
  rw [Finset.sum_congr rfl (g := fun j : Fin 21 => if j.val < 7 then 1 else 0) fun j _ => by
    unfold debtAmt
    by_cases h : j.val < 7
    · rw [if_pos h, if_pos h, if_pos (by unfold cellAt; rw [if_pos h])]
    · rw [if_neg h, if_neg h, if_neg (by unfold cellAt; rw [if_neg h]; split <;> exact fun h => by cases h)]]
  decide
/-- the landing cells of the two halves one chunk's credit each. -/
theorem owed_at_rs (i : Fin 7) : (∑ j : Fin 21, if (.inr (2, i) : CellIx) = cellAt j then debtAmt j.val else 0) = N := by
  have hne : ∀ i : Fin 7, ∀ j : Fin 21, j ≠ ⟨7 + i.val, by omega⟩ → (.inr (2, i) : CellIx) ≠ cellAt j := by decide +kernel
  have heq : ∀ i : Fin 7, (.inr (2, i) : CellIx) = cellAt ⟨7 + i.val, by omega⟩ := by decide +kernel
  rw [Finset.sum_eq_single (⟨7 + i.val, by omega⟩ : Fin 21) (fun j _ hj => if_neg (hne i j hj)) (fun h => absurd (Finset.mem_univ _) h),
    if_pos (heq i)]
  exact if_neg (by show ¬ 7 + i.val < 7; omega)
theorem owed_at_ag (i : Fin 7) : (∑ j : Fin 21, if (.inr (3, i) : CellIx) = cellAt j then debtAmt j.val else 0) = N := by
  have hne : ∀ i : Fin 7, ∀ j : Fin 21, j ≠ ⟨14 + i.val, by omega⟩ → (.inr (3, i) : CellIx) ≠ cellAt j := by decide +kernel
  have heq : ∀ i : Fin 7, (.inr (3, i) : CellIx) = cellAt ⟨14 + i.val, by omega⟩ := by decide +kernel
  rw [Finset.sum_eq_single (⟨14 + i.val, by omega⟩ : Fin 21) (fun j _ hj => if_neg (hne i j hj)) (fun h => absurd (Finset.mem_univ _) h),
    if_pos (heq i)]
  exact if_neg (by show ¬ 14 + i.val < 7; omega)

theorem credit_at (c : Dev nD) (x : CellIx) {n : ℕ} (h : (∑ j : Fin 21, if x = cellAt j then debtAmt j.val else 0) = n) :
    tallyOn (kcell (c, x)) (launchCredit (Pipeline.owing O₀) 0 (kcell (c, x))) = (tallyAt (kcell (c, x)) () n : CellTallies nD τ sig Unit) := by
  unfold tallyAt
  refine congrArg _ (Finsupp.ext fun u => ?_)
  cases u
  rw [Pipeline.launchCredit_owing, Finsupp.single_eq_same, owed_cell, h]

omit [FloatOps F] in
/-- A device's launch credit: its barrier's and its landing cells'. -/
theorem credits (c : Dev nD) : (Pipeline.launchCred O₀ c : sProp 𝕄)
    ⊢ iprop(cred (tallyAt (barCell c) () 7) ∗ (bigSep Finset.univ fun i : Fin 7 => cred (tallyAt (dmaCell c 2 i) () N))
      ∗ bigSep Finset.univ fun i : Fin 7 => cred (tallyAt (dmaCell c 3 i) () N)) := by
  have h1 : (Pipeline.launchCred O₀ c : sProp 𝕄) ⊢ bigSep Finset.univ fun x : CellIx => cred (tallyOn (kcell (c, x)) (launchCredit (Pipeline.owing O₀) 0 (kcell (c, x)))) := by
    unfold Pipeline.launchCred
    refine BIBase.Entails.trans (bigSep_subset (Finset.subset_univ (Finset.univ.map ⟨csem, csem_injective⟩))) (Entails.of_eq ?_)
    rw [bigSep_map]; rfl
  refine h1.trans ?_
  rw [bigSep_cells]
  simp only [credit_at c _ owed_at_bar, credit_at c _ (owed_at_rs _), credit_at c _ (owed_at_ag _)]
  iintro ⟨H, -, -, H2, H3⟩
  isplitl [H]; · iexact H
  isplitl [H2] <;> iassumption

/-! ## What the launch theorem asks -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold start barRes rsRes agRes G' places paidToks
  rw [bigSep_cells]
  simp only [bigSep_sep']
  iintro ⟨-, Hlev, Hcr, -, HK, ⟨Hb, H0, H1, H2, H3⟩, Tb, T0, T1, T2, T3⟩
  ihave Hcr := (credits (F := F) c) $$ Hcr
  icases Hcr with ⟨Cb, C2, C3⟩
  imodintro
  isplitl
  · isplitl [HK]; · iexact HK
    isplitl [Hlev]; · iexact Hlev
    isplitl [Cb Hb Tb]
    · isplitl [Cb]; · iexact Cb
      isplitl [Hb] <;> iassumption
    isplitl [T0 T2 C2 H0 H2]
    · isplitl [T0]; · iexact T0
      isplitl [T2]; · iexact T2
      isplitl [C2]; · iexact C2
      isplitl [H0] <;> iassumption
    · isplitl [T1]; · iexact T1
      isplitl [T3]; · iexact T3
      isplitl [C3]; · iexact C3
      isplitl [H1] <;> iassumption
  · iempintro

omit [FloatOps F] in
/-- The scratch buffers, as the launch holds them. -/
theorem scratch_eq (c : Dev nD) : (Pipeline.scopedRest (Ix := Unit) (Name := ℕ) (U := UU) (Lvl := ℕ) (Val := Elt F) cfg0.spec c : sProp 𝕄) ⊢ scratch c := by
  rw [show cfg0.spec = spec0 from rfl, scopedRest0_eq]
  unfold scratch
  iintro ⟨H0, ⟨%f1, H1⟩, ⟨%f2, H2⟩⟩
  isplitl [H0]; · iexact H0
  isplitl [H1]
  · iapply (owned_intro c cM f1); rw [owns_whole_eq]; iexists f1; isplitr; · (ipureintro; rfl)
    iexact H1
  · iapply (owned_intro c gM f2); rw [owns_whole_eq]; iexists f2; isplitr; · (ipureintro; rfl)
    iexact H2
omit [FloatOps F] in
theorem scratch_back (c : Dev nD) : scratch c ⊢ (Pipeline.scopedRest (Ix := Unit) (Name := ℕ) (U := UU) (Lvl := ℕ) (Val := Elt F) cfg0.spec c : sProp 𝕄) := by
  rw [show cfg0.spec = spec0 from rfl, scopedRest0_eq]
  unfold scratch owned
  simp only [owns_whole_eq]
  iintro ⟨H0, ⟨%X1, %f1, %h1, H1⟩, ⟨%X2, %f2, %h2, H2⟩⟩
  isplitl [H0]; · iexact H0
  isplitl [H1]
  · iexists f1; iexact H1
  · iexists f2; iexact H2

theorem phi_in (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (scratch_eq (F := F) c); iexact Hr

theorem phi_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, barrier_sem]
  unfold Φ₁ Pipeline.ownSems0
  rw [bigSep_univ_prod, bigSep_four]
  simp only [bigSep_sep']
  iintro ⟨Hs, Hb, ⟨H0, H2⟩, H1, H3⟩
  isplitl [Hb]; · iexact Hb
  isplitr [Hs]
  · isplitl [H0]; · iexact H0
    isplitl [H1]; · iexact H1
    isplitl [H2] <;> iassumption
  iapply (scratch_back (F := F) c); iexact Hs

theorem waits (c : Dev nD) : (levAts L lv : sProp 𝕄) ⊢ Pipeline.cellsWaits cfgs (dats m ρ) () 0 c :=
  Pipeline.cellsWaits_intro cfgs (dats m ρ) () 0 c fun w s t => by
    have hlow : lvS (.dma ((cfg0.win w).sem s)) = 0 := by fin_cases w <;> fin_cases s <;> rfl
    rcases t with ⟨_ | _, ht⟩
    · exact mayWait c _ 21 (Nat.le_refl _) (by rw [hlow]; decide)
    · exact mayWait c _ 0 (Nat.zero_le _) (by rw [hlow]; decide)

/-! ## The run -/

/-- What window `w`'s array holds at the end. -/
def final (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = final m ρ c w

set_option maxRecDepth 8000 in
/-- From any memory with zero counters, for any float values, every weakly fair execution of the eight devices ends, each array at
    its final contents and every counter at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ kernelSems (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (deal m ρ) $$ HX with HG
      imodintro
      isplitl [HP] <;> iassumption)
    (hglob := share_cells m ρ)
    (hA := fun _ _ => rfl) (hpf := fun _ k => k.elim0)
    (X := start m ρ) (Y := fun c => unscopedSems0 c) (Z := fun _ => iprop(emp))
    (hX := start_intro m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- A window the body only reads leaves its array as it was. -/
theorem final_arg (c : Dev nD) (w : Fin 6) (hw : w.val < 5) : final m ρ c w = (s₀ m ρ).mem ((cfg0.win w).arr.view.loc (c : Thread nD τ)) := by
  fin_cases w <;> first | exact (dats (F := F) m ρ 0 c).arrAt_in _ rfl _ | exact absurd hw (by decide)

end Cert.KernelIdeal.Exchange

end
-- ==== Proof.KernelIdeal.Result.lean ====
/-
# What the run leaves

The staged operands are the arguments, the result array is the kernel's result, and so: the run's frame, and its value.
-/
module

public import proofs.«01_k».proof.Proof.KernelIdeal.Launch
public import Idealize.ShloMosaic.Lib.Pipeline.Value

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

theorem xstg_eq (c : Dev nD) : xstg m ρ c = m ((c : Thread nD τ).loc main_arg0) :=
  funext fun i => congrArg (m ((c : Thread nD τ).loc main_arg0)) (funext fun a => Fin.ext (win0_0.rect_emb_val_of_index_zero t0_0 a rfl i))
theorem wqstg_eq (c : Dev nD) : wqstg m ρ c = m ((c : Thread nD τ).loc main_arg1) :=
  funext fun i => congrArg (m ((c : Thread nD τ).loc main_arg1)) (funext fun a => Fin.ext (win0_1.rect_emb_val_of_index_zero t0_0 a rfl i))
theorem kstg_eq (c : Dev nD) : kstg m ρ c = m ((c : Thread nD τ).loc main_arg2) :=
  funext fun i => congrArg (m ((c : Thread nD τ).loc main_arg2)) (funext fun a => Fin.ext (win0_2.rect_emb_val_of_index_zero t0_0 a rfl i))
theorem vstg_eq (c : Dev nD) : vstg m ρ c = m ((c : Thread nD τ).loc main_arg3) :=
  funext fun i => congrArg (m ((c : Thread nD τ).loc main_arg3)) (funext fun a => Fin.ext (win0_3.rect_emb_val_of_index_zero t0_0 a rfl i))
theorem wostg_eq (c : Dev nD) : wostg m ρ c = m ((c : Thread nD τ).loc main_arg4) :=
  funext fun i => congrArg (m ((c : Thread nD τ).loc main_arg4)) (funext fun a => Fin.ext (win0_4.rect_emb_val_of_index_zero t0_0 a rfl i))

theorem out_emb (t : Fin cfg0.N) (i : S512x512.Idx) : (win0_5.rect t).emb i = i :=
  funext fun a => Fin.ext (win0_5.rect_emb_val_of_index_zero t a rfl i)

/-- The result array ends at the kernel's result. -/
theorem final_out (c : Dev nD) : final m ρ c (5 : Fin 6) = outAll m ρ :=
  (dats m ρ 0 c).arrAt_eq_of_cover (5 : Fin 6) (outAll m ρ)
    (fun t _ => funext fun i => (congrArg (outAll m ρ) (out_emb t i)).symm)
    (fun i => ⟨t0_0, flush0_5 t0_0, by
      show i ∈ ((View.whole main_v1).slice (win0_5.rect t0_0)).set
      rw [View.set_slice_whole]
      have h := (win0_5.rect t0_0).idx_mem i
      rwa [show (win0_5.rect t0_0).idx i = i from out_emb t0_0 i] at h⟩)

/-- The run, its result and its arguments read off: on every device the result array holds the kernel's result, the arguments are
    unchanged, and every semaphore counter is zero. -/
theorem run : θ_run defs (onTc (τ := τ) (main (F := F))) ⟨m, fun _ => 0, ρ⟩ fun r =>
    (∀ c : Dev nD, r.2.mem ((c.tc : Thread nD τ).loc main_v1) = outAll m ρ
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0 :=
  (θ_run defs _ _).mono (fun _ h => ⟨fun c => ⟨(h.1 c (5 : Fin 6)).trans (final_out m ρ c),
    (h.1 c (0 : Fin 6)).trans (final_arg m ρ c 0 (by decide)), (h.1 c (1 : Fin 6)).trans (final_arg m ρ c 1 (by decide)),
    (h.1 c (2 : Fin 6)).trans (final_arg m ρ c 2 (by decide)), (h.1 c (3 : Fin 6)).trans (final_arg m ρ c 3 (by decide)),
    (h.1 c (4 : Fin 6)).trans (final_arg m ρ c 4 (by decide))⟩, h.2⟩) (run_main m ρ)

/-- Every weakly fair execution of the eight devices ends, the arguments unchanged and every semaphore counter at zero. -/
theorem frame : θ_run defs (onTc (τ := τ) (main (F := F))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0 :=
  (θ_run defs _ _).mono (fun _ h => ⟨fun c => (h.1 c).2, h.2⟩) (run m ρ)

end Cert.KernelIdeal.Exchange

end
-- ==== Proof.Value.Softmax.lean ====
/-
# Weights of a row, normalised before or after the weighted sum

A row of scores `s j`, all real, and a row of values `v j`, any extended reals. The kernel exponentiates the scores as
they are, sums the weighted values and divides the sum by the sum of the weights; the reference takes the row's largest
score off first, divides each weight by the sum of the weights and sums the weighted values last. The two agree
(`weighted_mean_eq`): the weights are positive reals, so the division distributes over a sum of any extended reals, and
taking a real off every score multiplies numerator and denominator by one positive real.
-/
module

public import Idealize.ShloMosaic.PureOps.Ideal.Laws
public import Idealize.ShloMosaic.Lib.ValueIdx
public import Idealize.ShloMosaic.Lib.IdealHost

@[expose] public section

noncomputable section

namespace Cert.Value

open Idealize.ShloMosaic
open scoped BigOperators

/-- The extended real is a real. -/
def IsReal (x : EReal) : Prop := ∃ r : ℝ, x = (r : EReal)

theorem IsReal.coe (r : ℝ) : IsReal (r : EReal) := ⟨r, rfl⟩
theorem IsReal.mul {x y : EReal} : IsReal x → IsReal y → IsReal (x * y)
  | ⟨a, ha⟩, ⟨b, hb⟩ => ⟨a * b, by rw [ha, hb, EReal.coe_mul]⟩
theorem IsReal.add {x y : EReal} : IsReal x → IsReal y → IsReal (x + y)
  | ⟨a, ha⟩, ⟨b, hb⟩ => ⟨a + b, by rw [ha, hb, EReal.coe_add]⟩

/-- A sum of reals is a real. -/
theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

theorem isReal_iff {x : EReal} : IsReal x ↔ x ≠ ⊥ ∧ x ≠ ⊤ :=
  ⟨fun ⟨r, h⟩ => h ▸ ⟨EReal.coe_ne_bot r, EReal.coe_ne_top r⟩, fun ⟨hb, ht⟩ => ⟨x.toReal, (EReal.coe_toReal ht hb).symm⟩⟩

/-- The largest of finitely many reals, at least one, is a real. -/
theorem isReal_fold_max {ι : Type} (s : Finset ι) (f : ι → EReal) (h : ∀ i, IsReal (f i)) (hs : s.Nonempty) :
    IsReal (s.fold max ⊥ f) := by
  refine isReal_iff.2 ⟨ne_of_gt ?_, ne_of_lt ?_⟩
  · obtain ⟨i, hi⟩ := hs
    exact (Finset.lt_fold_max _).2 (.inr ⟨i, hi, bot_lt_iff_ne_bot.2 (isReal_iff.1 (h i)).1⟩)
  · exact (Finset.fold_max_lt _).2 ⟨bot_lt_top, fun i _ => lt_top_iff_ne_top.2 (isReal_iff.1 (h i)).2⟩

/-- Multiplying by a real that is not negative distributes over a sum of any extended reals. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

/-- A sum of reals, as one real. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Dividing by a positive real multiplies by its reciprocal. -/
theorem div_coe (x : EReal) (d : ℝ) (hd : 0 < d) : Ideal.div x (d : EReal) = x * ((d⁻¹ : ℝ) : EReal) := by
  unfold Ideal.div
  rw [if_neg (by exact_mod_cast hd.ne'), EReal.coe_inv]

theorem exp_coe (r : ℝ) : Ideal.exp (r : EReal) = (Real.exp r : EReal) := rfl

/-- **Normalising after the weighted sum is normalising before it**, whatever real is taken off the scores first. -/
theorem weighted_mean_eq {n : ℕ} (hn : 0 < n) (s : Fin n → EReal) (hs : ∀ j, IsReal (s j)) (M : EReal) (hM : IsReal M)
    (v : Fin n → EReal) :
    Ideal.div (∑ j, Ideal.exp (s j) * v j) (∑ j, Ideal.exp (s j))
      = ∑ j, v j * Ideal.div (Ideal.exp (s j - M)) (∑ k, Ideal.exp (s k - M)) := by
  haveI : Nonempty (Fin n) := ⟨⟨0, hn⟩⟩
  choose a ha using hs
  obtain ⟨b, rfl⟩ := hM
  have hD : 0 < ∑ j, Real.exp (a j) := Finset.sum_pos (fun j _ => Real.exp_pos _) Finset.univ_nonempty
  have hE : 0 < ∑ j, Real.exp (a j - b) := Finset.sum_pos (fun j _ => Real.exp_pos _) Finset.univ_nonempty
  have h1 : ∑ j, Ideal.exp (s j) = ((∑ j, Real.exp (a j) : ℝ) : EReal) := by
    rw [← sum_coe]; exact Finset.sum_congr rfl fun j _ => by rw [ha j, exp_coe]
  have h2 : ∀ j, Ideal.exp (s j - (b : EReal)) = (Real.exp (a j - b) : EReal) := fun j => by
    rw [ha j, ← EReal.coe_sub, exp_coe]
  have h3 : ∑ j, Ideal.exp (s j - (b : EReal)) = ((∑ j, Real.exp (a j - b) : ℝ) : EReal) := by
    rw [← sum_coe]; exact Finset.sum_congr rfl fun j _ => h2 j
  rw [h1, h3, div_coe _ _ hD, sum_mul_coe _ _ _ (inv_nonneg.2 hD.le)]
  refine Finset.sum_congr rfl fun j _ => ?_
  rw [h2 j, div_coe _ _ hE, ha j, exp_coe, mul_comm _ (v j), mul_assoc, ← EReal.coe_mul, ← EReal.coe_mul]
  congr 2
  have hsum : ∑ k, Real.exp (a k - b) = (∑ k, Real.exp (a k)) * Real.exp (-b) := by
    rw [Finset.sum_mul]; exact Finset.sum_congr rfl fun k _ => by rw [← Real.exp_add, sub_eq_add_neg]
  rw [hsum, sub_eq_add_neg, Real.exp_add]
  field_simp

end Cert.Value
-- ==== Proof.Value.KernelMask.lean ====
/-
# The keys a query sees, as the kernel computes them

A query and a key belong to blocks of 64 positions. A query sees a key when the two blocks are one, when the key's block
is the first, or when the two block numbers add to a multiple of three (`sees`). The kernel computes the block numbers by a
quotient rounded down and the last condition by a remainder, on 32-bit words; at the 256 positions there are, its word is
this bit (`seen_apply`).
-/
module

public import proofs.«01_k».proof.Proof.KernelIdeal.Tables
public import Idealize.ShloMosaic.Lib.ValueIdx
public import Idealize.ShloMosaic.Lib.Pipeline.Value

@[expose] public section

noncomputable section

namespace Cert.Value

open Idealize.ShloMosaic Idealize.ShloMosaic.ValueIdx

/-- Whether the query at position `i` sees the key at position `j`. -/
def sees (i j : Fin 256) : BitVec 1 :=
  if i.val / 64 = j.val / 64 ∨ j.val / 64 = 0 ∨ (i.val / 64 + j.val / 64) % 3 = 0 then 1#1 else 0#1

/-- Every query sees the first key. -/
theorem sees_first (i : Fin 256) : sees i 0 = 1#1 := by unfold sees; rw [if_pos (.inr (.inl rfl))]

namespace KernelMask

open Cert.KernelIdeal Cert.KernelIdeal.Gen Cert.KernelIdeal.Exchange

/-- A quotient by 64 rounded down, as the kernel computes it of a word. -/
def blockWord (x : BitVec 32) : BitVec 32 :=
  Scalar.select
    (IntOp.andi
      (IntOp.cmpi .ne (IntOp.subi ((IntOp.cmpi .sgt x 0#32).setWidth 32) ((IntOp.cmpi .slt x 0#32).setWidth 32))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32) (IntOp.divsi .vector x 64#32)

/-- The number the kernel takes block numbers' sums modulo. -/
def three : BitVec 32 := Scalar.select (Scalar.cmpi .eq 3#32 0#32) 1#32 3#32

/-- The bit the kernel computes of a query's block and a key's. -/
def seesWord (q k : BitVec 32) : BitVec 1 :=
  IntOp.ori (IntOp.ori (IntOp.cmpi .eq q k) (IntOp.cmpi .eq k 0#32))
    (IntOp.cmpi .eq
      (Scalar.select
        (IntOp.andi (IntOp.xori (IntOp.cmpi .slt (IntOp.remsi .vector (IntOp.addi q k) three) 0#32) (Scalar.cmpi .slt three 0#32))
          (IntOp.cmpi .ne (IntOp.remsi .vector (IntOp.addi q k) three) 0#32))
        (IntOp.addi (IntOp.remsi .vector (IntOp.addi q k) three) three) (IntOp.remsi .vector (IntOp.addi q k) three))
      0#32)

theorem blockWord_eq : ∀ i : Fin 256, blockWord (BitVec.ofNat 32 i.val) = BitVec.ofNat 32 (i.val / 64) := by decide +kernel

theorem seesWord_eq : ∀ a b : Fin 4, seesWord (BitVec.ofNat 32 a.val) (BitVec.ofNat 32 b.val)
    = if a.val = b.val ∨ b.val = 0 ∨ (a.val + b.val) % 3 = 0 then 1#1 else 0#1 := by decide +kernel

/-- A query's block number; -/
theorem row_apply (i j : Fin 256) : k0_pay7 k0_pay3 k0_pay4 k0_pay5 k0_pay6 (ix2 i j) = BitVec.ofNat 32 (i.val / 64) := by
  have e : k0_pay7 k0_pay3 k0_pay4 k0_pay5 k0_pay6 (ix2 i j)
      = blockWord (iota .tc S256x256 32 [0] iota_S256x256_d0_w32 (ix2 i j)) := rfl
  rw [e, iota_single_apply, ← blockWord_eq]

/-- and a key's. -/
theorem col_apply (i j : Fin 256) : k0_pay8 (ix2 i j) = BitVec.ofNat 32 (j.val / 64) := by
  have e : k0_pay8 (ix2 i j) = blockWord (iota .tc S256x256 32 [1] iota_S256x256_d1_w32 (ix2 i j)) := rfl
  rw [e, iota_single_apply, ← blockWord_eq]

end KernelMask

/-- The kernel's mask at a query and a key. -/
theorem seen_apply (i j : Fin 256) : Cert.KernelIdeal.Exchange.seen (ix2 i j) = sees i j := by
  have e : Cert.KernelIdeal.Exchange.seen (ix2 i j)
      = KernelMask.seesWord (Cert.KernelIdeal.Gen.k0_pay7 Cert.KernelIdeal.Gen.k0_pay3 Cert.KernelIdeal.Gen.k0_pay4
          Cert.KernelIdeal.Gen.k0_pay5 Cert.KernelIdeal.Gen.k0_pay6 (ix2 i j)) (Cert.KernelIdeal.Gen.k0_pay8 (ix2 i j)) := rfl
  rw [e, KernelMask.row_apply, KernelMask.col_apply]
  exact KernelMask.seesWord_eq ⟨i.val / 64, by omega⟩ ⟨j.val / 64, by omega⟩

end Cert.Value
-- ==== Proof.Value.KernelHead.lean ====
/-
# One head of attention, as the kernel computes it

Over one batch, a head's 256 queries and keys are 64 columns of the device's query, key and value arrays. A query's
scores are its products with the keys, a fixed negative number where it does not see the key; the head's result is the
sum of the values weighted by the scores' exponentials, divided by the sum of the weights (`oneHead_apply`). A batch's
result is its four heads side by side (`heads_apply`).
-/
module

public import proofs.«01_k».proof.Proof.Value.KernelMask
public import Idealize.ShloMosaic.Lib.MatmulPlain

@[expose] public section

noncomputable section

namespace Cert.Value

open Idealize.ShloMosaic Idealize.ShloMosaic.ValueIdx
open Cert.KernelIdeal Cert.KernelIdeal.Gen
open scoped BigOperators

/-- The score of a key that is not seen. -/
def unseen : EReal := Ideal.ofBits .f32 0xCE6E6B28#32

/-- One head over one batch: queries `q`, keys `k`, values `v`. -/
def oneHead (q k v : FVec Ideal S256x64 .bf16) : FVec Ideal S256x64 .f32 :=
  have e : FVec Ideal S256x256 .f32 :=
    exp (select Exchange.seen
      (matmul dot_S256x64_S256x64_S256x256_1_1_0_0_n_n none q k (constant S256x256 .f32 0x00000000#32))
      (broadcast S256x256 (Scalar.ofBits .f32 0xCE6E6B28#32)))
  divf
    (matmul dot_S256x256_S256x64_S256x64_1_0_0_1_n_n none (truncf .bf16 e bitsLt_bf16_f32) v (constant S256x64 .f32 0x00000000#32))
    (broadcastTo S256x64
      (shapeCast S256x1 (multiReduction .add [1] S256 e 0x00000000#32 reduces_S256x256_S256 (.inl rfl) rfl) shapeCasts_S256_S256x1)
      broadcasts_S256x1_S256x64)

/-- A query's score of a key. -/
def headScore (q k : FVec Ideal S256x64 .bf16) (i j : Fin 256) : EReal :=
  Scalar.select (sees i j) (∑ e : Fin 64, q (ix2 i e) * k (ix2 j e)) unseen

theorem score_apply (q k : FVec Ideal S256x64 .bf16) (i j : Fin 256) :
    (select Exchange.seen
      (matmul dot_S256x64_S256x64_S256x256_1_1_0_0_n_n none q k (constant S256x256 .f32 0x00000000#32))
      (broadcast S256x256 (Scalar.ofBits .f32 0xCE6E6B28#32)) : FVec Ideal S256x256 .f32) (ix2 i j) = headScore q k i j := by
  have e : (matmul dot_S256x64_S256x64_S256x256_1_1_0_0_n_n none q k (constant S256x256 .f32 0x00000000#32) : FVec Ideal S256x256 .f32)
      (ix2 i j) = ∑ e : Fin 64, q (ix2 i e) * k (ix2 j e) := by
    refine (Ideal.matmul_transposedRhs_apply (M := 256) (K := 64) (N := 256) none q k _ i j).trans ?_
    rw [constant_apply, Ideal.ofBits_zero_f32, zero_add]
  rw [select_apply, e, seen_apply]
  rfl

/-- **A head's result at a query and a column.** -/
theorem oneHead_apply (q k v : FVec Ideal S256x64 .bf16) (i : Fin 256) (d : Fin 64) :
    oneHead q k v (ix2 i d)
      = Ideal.div (∑ j : Fin 256, Ideal.exp (headScore q k i j) * v (ix2 j d)) (∑ j : Fin 256, Ideal.exp (headScore q k i j)) := by
  unfold oneHead
  rw [divf_apply]
  congr 1
  · refine (Ideal.matmul_plain_apply (M := 256) (K := 256) (N := 64) none _ v _ i d).trans ?_
    rw [constant_apply, Ideal.ofBits_zero_f32, zero_add]
    refine Finset.sum_congr rfl fun j _ => ?_
    rw [truncf_apply]
    exact congrArg (fun z => Ideal.exp z * v (ix2 j d)) (score_apply q k i j)
  · refine (broadcastTo_apply _ _ (ix2 i d) (ix2 i 0) fun a => ?_).trans ?_
    · match a with
      | ⟨0, _⟩ => rfl
      | ⟨1, _⟩ => rfl
    refine (shapeCast_apply _ _ (ix2 i 0) (ix1 i) ?_).trans ?_
    · rw [Shape.rowMajor_val_one, Shape.rowMajor_val_two]; simp
    refine (Ideal.multiReduction_add_single _ _ _ _ _ (ix1 i)).trans ?_
    refine Finset.sum_congr rfl fun j _ => ?_
    have hl : (reduces_S256x256_S256 : S256x256.Reduces [1] S256).lift (ix1 i) j = ix2 i j := by
      funext a; apply Fin.ext
      match a with
      | ⟨0, _⟩ => rfl
      | ⟨1, _⟩ => rfl
    rw [hl]
    exact congrArg Ideal.exp (score_apply q k i j)

theorem slices_q (b : Fin 2) (h : Fin 4) : S512x256.Slices ![256 * b.val, 64 * h.val] S256x64 := by revert b h; decide
theorem slices_kv (b : Fin 2) (h : Fin 4) : S2x256x256.Slices ![b.val, 0, 64 * h.val] S1x256x64 := by revert b h; decide

/-- The queries of head `h` over batch `b`; -/
def qPart (q : FVec Ideal S512x256 .bf16) (b : Fin 2) (h : Fin 4) : FVec Ideal S256x64 .bf16 :=
  extractStridedSlice S256x64 ![256 * b.val, 64 * h.val] q (slices_q b h)
/-- its keys, or its values. -/
def kvPart (k : FVec Ideal S2x256x256 .bf16) (b : Fin 2) (h : Fin 4) : FVec Ideal S256x64 .bf16 :=
  shapeCast S256x64 (extractStridedSlice S1x256x64 ![b.val, 0, 64 * h.val] k (slices_kv b h)) shapeCasts_S1x256x64_S256x64

theorem qPart_apply (q : FVec Ideal S512x256 .bf16) (b : Fin 2) (h : Fin 4) (i : Fin 256) (e : Fin 64) :
    qPart q b h (ix2 i e) = q (ix2 ⟨256 * b.val + i.val, by omega⟩ ⟨64 * h.val + e.val, by omega⟩) := by
  refine extractStridedSlice_apply _ _ _ _ _ fun a => ?_
  match a with
  | ⟨0, _⟩ => rfl
  | ⟨1, _⟩ => rfl

theorem kvPart_apply (k : FVec Ideal S2x256x256 .bf16) (b : Fin 2) (h : Fin 4) (i : Fin 256) (e : Fin 64) :
    kvPart k b h (ix2 i e) = k (ix3 b i ⟨64 * h.val + e.val, by omega⟩) := by
  refine (shapeCast_apply _ _ (ix2 i e) (ix3 0 i e) ?_).trans ?_
  · rw [Shape.rowMajor_val_three, Shape.rowMajor_val_two]; simp
  refine extractStridedSlice_apply _ _ _ _ _ fun a => ?_
  match a with
  | ⟨0, _⟩ => rfl
  | ⟨1, _⟩ => show i.val = 0 + i.val; omega
  | ⟨2, _⟩ => rfl

theorem concatenates_heads (q : FVec Ideal S512x256 .bf16) (k v : FVec Ideal S2x256x256 .bf16) (b : Fin 2) :
    Shape.Concatenates ((List.ofFn fun h : Fin 4 =>
      (⟨S256x64, oneHead (qPart q b h) (kvPart k b h) (kvPart v b h)⟩ : (s : Shape) × (s.Idx → EReal))).map (·.1)) S256x256 1 :=
  concatenates_S256x64_S256x64_S256x64_S256x64_S256x256_d1

/-- Batch `b`'s four heads, side by side. -/
def heads (q : FVec Ideal S512x256 .bf16) (k v : FVec Ideal S2x256x256 .bf16) (b : Fin 2) : FVec Ideal S256x256 .f32 :=
  concatenate S256x256 1 (List.ofFn fun h : Fin 4 =>
    (⟨S256x64, oneHead (qPart q b h) (kvPart k b h) (kvPart v b h)⟩ : (s : Shape) × (s.Idx → EReal))) (concatenates_heads q k v b)

/-- Column `64 h + d` of them is column `d` of head `h`. -/
theorem heads_apply (q : FVec Ideal S512x256 .bf16) (k v : FVec Ideal S2x256x256 .bf16) (b : Fin 2) (i : Fin 256) (h : Fin 4)
    (d : Fin 64) : heads q k v b (ix2 i ⟨64 * h.val + d.val, by omega⟩)
      = oneHead (qPart q b h) (kvPart k b h) (kvPart v b h) (ix2 i d) := by
  refine concatenate_ofFn_apply (s₁ := S256x64) (t := S256x256) 1 _ _ rfl 64 rfl _ h ?_ (ix2 i d) ?_ fun a ha => ?_
  · show (64 * h.val + d.val) / 64 = h.val; omega
  · show d.val = (64 * h.val + d.val) % 64; omega
  · match a with
    | ⟨0, _⟩ => rfl
    | ⟨1, _⟩ => exact absurd rfl ha

variable (m : (ℓ : Loc nD τ sig) → Buf (Elt Ideal) ℓ) (ρ : Dev nD → PrngReg)

/-- The kernel's two batches are these. -/
theorem att0_eq (c : Dev nD) : Exchange.att0 m ρ c
    = heads (Exchange.qv m ρ c) (k0_pay15 (Exchange.kstg m ρ c)) (k0_pay16 (Exchange.vstg m ρ c)) 0 := rfl
theorem att1_eq (c : Dev nD) : Exchange.att1 m ρ c
    = heads (Exchange.qv m ρ c) (k0_pay15 (Exchange.kstg m ρ c)) (k0_pay16 (Exchange.vstg m ρ c)) 1 := rfl

end Cert.Value
-- ==== Proof.Value.Attention.lean ====
/-
# The attention both programs compute, of the whole arrays

Each query and key position is one of 256, each column of the projected queries one of 2048, 64 to a head. `projAt` is a
projected query, `scoreAt` a score (scaled, or a fixed negative number where the key is not seen), `ctxAt` the attention's
result before the last product, `resAt` the result. All are written in the kernel's order: the weighted sum of the values
divided by the sum of the weights.
-/
module

public import proofs.«01_k».proof.Proof.Value.Softmax
public import proofs.«01_k».proof.Proof.Value.KernelHead

@[expose] public section

noncomputable section

namespace Cert.Value

open Idealize.ShloMosaic Idealize.ShloMosaic.ValueIdx
open scoped BigOperators

/-- The factor of the scores. -/
def scale : EReal := Ideal.ofBits .f32 0x3E000000#32

theorem scale_eq : scale = ((1 / 8 : ℝ) : EReal) := by
  unfold scale
  simp [Ideal.ofBits, Ideal.ieee, -EReal.coe_mul]; norm_num

/-- The score of a key that is not seen is a real. -/
theorem unseen_real : IsReal unseen := by
  refine ⟨-1000000000, ?_⟩
  unfold unseen
  simp [Ideal.ofBits, Ideal.ieee, -EReal.coe_mul, -EReal.coe_neg]; norm_num

abbrev XT : Type := (⟨3, ![2, 256, 512]⟩ : Shape).Idx → EReal
abbrev WqT : Type := (⟨2, ![512, 2048]⟩ : Shape).Idx → EReal
abbrev KVT : Type := (⟨4, ![2, 256, 32, 64]⟩ : Shape).Idx → EReal
abbrev WoT : Type := (⟨2, ![2048, 512]⟩ : Shape).Idx → EReal

/-- Column `d` of head `h`. -/
abbrev col (h : Fin 32) (d : Fin 64) : Fin 2048 := ⟨64 * h.val + d.val, by omega⟩

variable (X : XT) (Wq : WqT) (K V : KVT) (Wo : WoT)

/-- A projected query, unscaled. -/
def projAt (b : Fin 2) (i : Fin 256) (u : Fin 2048) : EReal := ∑ e : Fin 512, X (ix3 b i e) * Wq (ix2 e u)

/-- A query's score of a key in a head. -/
def scoreAt (b : Fin 2) (h : Fin 32) (i j : Fin 256) : EReal :=
  Scalar.select (sees i j) ((∑ d : Fin 64, projAt X Wq b i (col h d) * K (ix4 b j h d)) * scale) unseen

/-- A head's result at a query and a column. -/
def ctxAt (b : Fin 2) (i : Fin 256) (h : Fin 32) (d : Fin 64) : EReal :=
  Ideal.div (∑ j : Fin 256, Ideal.exp (scoreAt X Wq K b h i j) * V (ix4 b j h d))
    (∑ j : Fin 256, Ideal.exp (scoreAt X Wq K b h i j))

/-- The head of a column, and the column's number in it. -/
abbrev headOf (u : Fin 2048) : Fin 32 := ⟨u.val / 64, by omega⟩
abbrev colOf (u : Fin 2048) : Fin 64 := ⟨u.val % 64, Nat.mod_lt _ (by decide)⟩

/-- The result at a batch's row and a column. -/
def resAt (b : Fin 2) (i : Fin 256) (n : Fin 512) : EReal :=
  ∑ u : Fin 2048, ctxAt X Wq K V b i (headOf u) (colOf u) * Wo (ix2 u n)

/-- Of real queries, projections and keys every score is a real. -/
theorem scoreAt_real (hX : ∀ i, IsReal (X i)) (hW : ∀ i, IsReal (Wq i)) (hK : ∀ i, IsReal (K i))
    (b : Fin 2) (h : Fin 32) (i j : Fin 256) : IsReal (scoreAt X Wq K b h i j) := by
  have hs : IsReal ((∑ d : Fin 64, projAt X Wq b i (col h d) * K (ix4 b j h d)) * scale) :=
    (IsReal.sum _ _ fun d => (IsReal.sum _ _ fun e => (hX _).mul (hW _)).mul (hK _)).mul ⟨_, scale_eq⟩
  unfold scoreAt
  rcases BitVec.eq_zero_or_eq_one (sees i j) with h0 | h1
  · rw [h0, select_zero]; exact unseen_real
  · rw [h1, select_one]; exact hs

end Cert.Value
-- ==== Proof.Value.KernelPartial.lean ====
/-
# A device's partial result

Device `c` holds the keys and values of four heads (`4c` to `4c + 3`) and takes the 256 columns of the query projection
and the 256 rows of the output projection that belong to them. So its attention is columns `256c` to `256c + 255` of the
whole attention (`attention_apply`), and its partial result is the part of the last product's sum over those columns
(`psum_apply`).
-/
module

public import proofs.«01_k».proof.Proof.Value.Attention
public import proofs.«01_k».proof.Proof.KernelIdeal.Result
public import Idealize.ShloMosaic.Lib.Layout

@[expose] public section

noncomputable section

namespace Cert.Value

open Idealize.ShloMosaic Idealize.ShloMosaic.TcCoe Idealize.ShloMosaic.ValueIdx
open Cert.KernelIdeal Cert.KernelIdeal.Gen
open scoped BigOperators

variable (m : (ℓ : Loc nD τ sig) → Buf (Elt Ideal) ℓ) (ρ : Dev nD → PrngReg)

/-- What the arguments hold: every device the whole of three of them, and its heads' block of the keys and the values. -/
structure Holds (X : XT) (Wq : WqT) (K V : KVT) (Wo : WoT) : Prop where
  x : ∀ c : Dev nD, m ((c : Thread nD τ).loc main_arg0) = X
  wq : ∀ c : Dev nD, m ((c : Thread nD τ).loc main_arg1) = Wq
  k : ∀ c : Dev nD, m ((c : Thread nD τ).loc main_arg2) = Layout.block ⟨4, ![2, 256, 4, 64]⟩ ⟨4, ![2, 256, 32, 64]⟩ 2 8 c K
  v : ∀ c : Dev nD, m ((c : Thread nD τ).loc main_arg3) = Layout.block ⟨4, ![2, 256, 4, 64]⟩ ⟨4, ![2, 256, 32, 64]⟩ 2 8 c V
  wo : ∀ c : Dev nD, m ((c : Thread nD τ).loc main_arg4) = Wo

theorem off1_eq (c : Dev nD) : k0_off1 c = ![0, 256 * c.val] := by revert c; decide +kernel
theorem off2_eq (c : Dev nD) : k0_off2 c = ![256 * c.val, 0] := by revert c; decide +kernel

/-- Column `w` of device `c`'s 256. -/
abbrev wide (c : Dev nD) (w : Fin 256) : Fin 2048 := ⟨256 * c.val + w.val, by have : c.val < 8 := c.isLt; omega⟩

variable {X : XT} {Wq : WqT} {K V : KVT} {Wo : WoT}

section Operands
variable {m}

theorem wqblk_apply (H : Holds m X Wq K V Wo) (c : Dev nD) (e : Fin 512) (w : Fin 256) :
    Exchange.wqblk m ρ c (ix2 e w) = Wq (ix2 e (wide c w)) := by
  have h : Exchange.wqstg m ρ c = Wq := (Exchange.wqstg_eq m ρ c).trans (H.wq c)
  have e1 : Exchange.wqblk m ρ c (ix2 e w) = Exchange.wqstg m ρ c ((Exchange.wqR c).emb (ix2 e w)) := rfl
  rw [e1, h]
  refine congrArg Wq (Shape.idx_ext₂ ?_ ?_)
  · show (k0_off1 c) 0 + 1 * e.val = e.val
    rw [off1_eq]; show 0 + 1 * e.val = e.val; omega
  · show (k0_off1 c) 1 + 1 * w.val = 256 * c.val + w.val
    rw [off1_eq]; show 256 * c.val + 1 * w.val = _; omega

theorem woblk_apply (H : Holds m X Wq K V Wo) (c : Dev nD) (w : Fin 256) (n : Fin 512) :
    Exchange.woblk m ρ c (ix2 w n) = Wo (ix2 (wide c w) n) := by
  have h : Exchange.wostg m ρ c = Wo := (Exchange.wostg_eq m ρ c).trans (H.wo c)
  have e1 : Exchange.woblk m ρ c (ix2 w n) = Exchange.wostg m ρ c ((Exchange.woR c).emb (ix2 w n)) := rfl
  rw [e1, h]
  refine congrArg Wo (Shape.idx_ext₂ ?_ ?_)
  · show (k0_off2 c) 0 + 1 * w.val = 256 * c.val + w.val
    rw [off2_eq]; show 256 * c.val + 1 * w.val = _; omega
  · show (k0_off2 c) 1 + 1 * n.val = n.val
    rw [off2_eq]; show 0 + 1 * n.val = n.val; omega

/-- The device's queries: the projected ones, scaled. -/
theorem qv_apply (H : Holds m X Wq K V Wo) (c : Dev nD) (b : Fin 2) (i w : Fin 256) :
    Exchange.qv m ρ c (ix2 ⟨256 * b.val + i.val, by omega⟩ w) = projAt X Wq b i (wide c w) * scale := by
  have hx : Exchange.xstg m ρ c = X := (Exchange.xstg_eq m ρ c).trans (H.x c)
  unfold Exchange.qv k0_pay2
  rw [truncf_apply, mulf_apply]
  refine congrArg₂ (· * ·) ?_ rfl
  refine (Ideal.matmul_plain_apply (M := 512) (K := 512) (N := 256) none _ _ _ _ w).trans ?_
  rw [constant_apply, Ideal.ofBits_zero_f32, zero_add]
  unfold projAt
  refine Finset.sum_congr rfl fun e _ => congrArg₂ (· * ·) ?_ ?_
  · rw [truncf_apply, shapeCast_self, hx]
    refine shapeCast_apply _ _ _ (ix3 b i e) ?_
    rw [Shape.rowMajor_val_three, Shape.rowMajor_val_two]
    show (b.val * 256 + i.val) * 512 + e.val = (256 * b.val + i.val) * 512 + e.val
    ring
  · rw [truncf_apply, shapeCast_self]
    exact wqblk_apply ρ H c e w

/-- The whole head that is device `c`'s head `h`. -/
abbrev wholeHead (c : Dev nD) (h : Fin 4) : Fin 32 := ⟨4 * c.val + h.val, by have : c.val < 8 := c.isLt; omega⟩

/-- A device's block of the keys, or the values, with its four heads' columns side by side. -/
theorem block_apply (K : KVT) (c : Dev nD) (h' : Shape.ShapeCasts S2x256x4x64 S2x256x256) (b : Fin 2) (j : Fin 256) (h : Fin 4) (d : Fin 64) :
    shapeCast S2x256x256 (Layout.block ⟨4, ![2, 256, 4, 64]⟩ ⟨4, ![2, 256, 32, 64]⟩ 2 8 c K) h'
      (ix3 b j ⟨64 * h.val + d.val, by omega⟩) = K (ix4 b j (wholeHead c h) d) := by
  refine (shapeCast_apply _ _ _ (ix4 b j h d) ?_).trans ?_
  · rw [Shape.rowMajor_val_four, Shape.rowMajor_val_three]
    show ((b.val * 256 + j.val) * 4 + h.val) * 64 + d.val = (b.val * 256 + j.val) * 256 + (64 * h.val + d.val)
    ring
  refine congrArg K (funext fun a => Fin.ext ?_)
  match a with
  | ⟨0, _⟩ => rfl
  | ⟨1, _⟩ => rfl
  | ⟨2, _⟩ => show c.val * 4 + h.val = 4 * c.val + h.val; omega
  | ⟨3, _⟩ => rfl

theorem k_apply (H : Holds m X Wq K V Wo) (c : Dev nD) (b : Fin 2) (j : Fin 256) (h : Fin 4) (d : Fin 64) :
    k0_pay15 (Exchange.kstg m ρ c) (ix3 b j ⟨64 * h.val + d.val, by omega⟩) = K (ix4 b j (wholeHead c h) d) := by
  unfold k0_pay15
  rw [truncf_apply, shapeCast_self, Exchange.kstg_eq, H.k c]
  exact block_apply K c _ b j h d

theorem v_apply (H : Holds m X Wq K V Wo) (c : Dev nD) (b : Fin 2) (j : Fin 256) (h : Fin 4) (d : Fin 64) :
    k0_pay16 (Exchange.vstg m ρ c) (ix3 b j ⟨64 * h.val + d.val, by omega⟩) = V (ix4 b j (wholeHead c h) d) := by
  unfold k0_pay16
  rw [truncf_apply, shapeCast_self, Exchange.vstg_eq, H.v c]
  exact block_apply V c _ b j h d

end Operands

/-- The device's attention over batch `b`. -/
def attention (c : Dev nD) (b : Fin 2) : FVec Ideal S256x256 .f32 :=
  heads (Exchange.qv m ρ c) (k0_pay15 (Exchange.kstg m ρ c)) (k0_pay16 (Exchange.vstg m ρ c)) b

variable {m}

/-- The device's scores are the whole's: the scale is taken out of the sum. -/
theorem headScore_eq (H : Holds m X Wq K V Wo) (c : Dev nD) (b : Fin 2) (h : Fin 4) (i j : Fin 256) :
    headScore (qPart (Exchange.qv m ρ c) b h) (kvPart (k0_pay15 (Exchange.kstg m ρ c)) b h) i j
      = scoreAt X Wq K b (wholeHead c h) i j := by
  unfold headScore scoreAt
  congr 1
  rw [scale_eq, sum_mul_coe _ _ _ (by norm_num), ← scale_eq]
  refine Finset.sum_congr rfl fun d _ => ?_
  rw [qPart_apply, kvPart_apply, k_apply ρ H, qv_apply ρ H, mul_right_comm]
  congr 3
  exact Fin.ext (by show 256 * c.val + (64 * h.val + d.val) = 64 * (4 * c.val + h.val) + d.val; omega)

/-- **The device's attention is its columns of the whole attention.** -/
theorem attention_apply (H : Holds m X Wq K V Wo) (c : Dev nD) (b : Fin 2) (i : Fin 256) (h : Fin 4) (d : Fin 64) :
    attention m ρ c b (ix2 i ⟨64 * h.val + d.val, by omega⟩) = ctxAt X Wq K V b i (wholeHead c h) d := by
  unfold attention ctxAt
  rw [heads_apply, oneHead_apply]
  simp only [headScore_eq ρ H, kvPart_apply, v_apply ρ H]

/-- The same by the column of the 256. -/
theorem attention_wide (H : Holds m X Wq K V Wo) (c : Dev nD) (b : Fin 2) (i w : Fin 256) :
    attention m ρ c b (ix2 i w) = ctxAt X Wq K V b i (headOf (wide c w)) (colOf (wide c w)) := by
  have hw : w = ⟨64 * (w.val / 64) + w.val % 64, by omega⟩ := Fin.ext (by show w.val = 64 * (w.val / 64) + w.val % 64; omega)
  have e := attention_apply ρ H c b i ⟨w.val / 64, by omega⟩ ⟨w.val % 64, Nat.mod_lt _ (by decide)⟩
  rw [← hw] at e
  rw [e]
  congr 1
  · exact Fin.ext (by show 4 * c.val + w.val / 64 = (256 * c.val + w.val) / 64; omega)
  · exact Fin.ext (by show w.val % 64 = (256 * c.val + w.val) % 64; omega)

/-- The two batches, one over the other. -/
theorem batches_apply (c : Dev nD) (hc : Shape.Concatenates [S256x256, S256x256] S512x256 0) (b : Fin 2) (i w : Fin 256) :
    concatenate S512x256 0 [⟨S256x256, Exchange.att0 m ρ c⟩, ⟨S256x256, Exchange.att1 m ρ c⟩] hc
      (ix2 ⟨256 * b.val + i.val, by omega⟩ w) = attention m ρ c b (ix2 i w) := by
  refine concatenate_ofFn_apply (s₁ := S256x256) (t := S512x256) (N := 2) 0 (fun b => attention m ρ c b) hc rfl 256 rfl _ b ?_
    (ix2 i w) ?_ fun a ha => ?_
  · show (256 * b.val + i.val) / 256 = b.val; omega
  · show i.val = (256 * b.val + i.val) % 256; omega
  · match a with
    | ⟨0, _⟩ => exact absurd rfl ha
    | ⟨1, _⟩ => rfl

/-- **The device's partial result**: the last product's sum over its own columns. -/
theorem psum_apply (H : Holds m X Wq K V Wo) (c : Dev nD) (b : Fin 2) (i : Fin 256) (n : Fin 512) :
    Exchange.psum m ρ c (ix2 ⟨256 * b.val + i.val, by omega⟩ n)
      = ∑ w : Fin 256, ctxAt X Wq K V b i (headOf (wide c w)) (colOf (wide c w)) * Wo (ix2 (wide c w) n) := by
  unfold Exchange.psum k0_pay25
  rw [shapeCast_self]
  refine (Ideal.matmul_plain_apply (M := 512) (K := 256) (N := 512) none _ _ _ _ n).trans ?_
  rw [constant_apply, Ideal.ofBits_zero_f32, zero_add]
  refine Finset.sum_congr rfl fun w _ => congrArg₂ (· * ·) ?_ ?_
  · rw [truncf_apply, batches_apply, attention_wide ρ H]
  · rw [truncf_apply, shapeCast_self]
    exact woblk_apply ρ H c w n

end Cert.Value
-- ==== Proof.Value.Finite.lean ====
/-
# What the precondition says

The comparison of an absolute value with positive infinity is one exactly at a real (`real_of_below`). So the precondition
says that a device's queries, projection and keys are reals (`inputs_real`), and, of all the devices together, that the
whole array of keys is (`keys_real`): each head is some device's.
-/
module

public import proofs.«01_k».proof.Proof.Value.KernelPartial
public import proofs.«01_k».proof.Pre_finite_KernelIdeal

@[expose] public section

noncomputable section

namespace Cert.Value

open Idealize.ShloMosaic Idealize.ShloMosaic.ValueIdx

/-- A value whose absolute value is below positive infinity is a real. -/
theorem real_of_below (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  refine isReal_iff.2 ⟨fun hx => ?_, fun hx => ?_⟩ <;> subst hx <;> simp [Ideal.cmp] at h

variable [Cert.Pre_finite_KernelIdeal.Facts]

open Cert.Pre_finite_KernelIdeal in
/-- The precondition of one device's blocks: its queries, its projection and its keys are reals. -/
theorem inputs_real (x : FVec Ideal S2x256x512 .f32) (w : FVec Ideal S512x2048 .f32) (k v : FVec Ideal S2x256x4x64 .f32)
    (wo : FVec Ideal S2048x512 .f32) (h0 : (fn x w k v wo).1 = fun _ => 1#1) (h1 : (fn x w k v wo).2.1 = fun _ => 1#1)
    (h2 : (fn x w k v wo).2.2 = fun _ => 1#1) :
    (∀ i, IsReal (x i)) ∧ (∀ i, IsReal (w i)) ∧ ∀ i, IsReal (k i) :=
  ⟨fun i => real_of_below _ (congrFun h0 i), fun i => real_of_below _ (congrFun h1 i), fun i => real_of_below _ (congrFun h2 i)⟩

/-- Keys whose every device's block is real are real. -/
theorem keys_real (K : KVT)
    (h : ∀ (c : Fin 8) (i), IsReal (Layout.block ⟨4, ![2, 256, 4, 64]⟩ ⟨4, ![2, 256, 32, 64]⟩ 2 8 c K (by decide) i)) (j) :
    IsReal (K j) := by
  obtain ⟨b, q, d, e, rfl⟩ : ∃ (b : Fin 2) (q : Fin 256) (d : Fin 32) (e : Fin 64), j = ix4 b q d e :=
    ⟨j 0, j 1, j 2, j 3, funext fun a => by match a with | ⟨0, _⟩ => rfl | ⟨1, _⟩ => rfl | ⟨2, _⟩ => rfl | ⟨3, _⟩ => rfl⟩
  have hr := h ⟨d.val / 4, by omega⟩ (ix4 b q ⟨d.val % 4, Nat.mod_lt _ (by decide)⟩ e)
  rw [Layout.block_apply] at hr
  refine (congrArg (fun p => IsReal (K p)) (funext fun a => Fin.ext ?_)).mp hr
  match a with
  | ⟨0, _⟩ => rfl
  | ⟨1, _⟩ => rfl
  | ⟨2, _⟩ => exact Nat.div_add_mod' d.val 4
  | ⟨3, _⟩ => rfl

end Cert.Value
-- ==== Proof.Value.KernelTotal.lean ====
/-
# The kernel's result

A chunk's owner adds the eight devices' partial results over the chunk's rows, its own first and then its partners' in mask
order (`tot_apply`); the order does not matter, so the result is the sum over the devices of their partial results
(`outAll_sum`), and over all the columns of the whole attention (`outAll_apply`).
-/
module

public import proofs.«01_k».proof.Proof.Value.KernelPartial

@[expose] public section

noncomputable section

namespace Cert.Value

open Idealize.ShloMosaic Idealize.ShloMosaic.ValueIdx
open Cert.KernelIdeal Cert.KernelIdeal.Gen Cert.KernelIdeal.Exchange
open scoped BigOperators

/-- A device and its seven partners. -/
def withPartners (c : Dev nD) : Fin 8 → Dev nD :=
  ![c, peer 0 c, peer 1 c, peer 2 c, peer 3 c, peer 4 c, peer 5 c, peer 6 c]

/-- They are all the devices, each once. -/
theorem withPartners_bijective (c : Dev nD) : Function.Bijective (withPartners c) := by
  have h : ∀ c : Dev nD, Function.Injective (withPartners c) := by decide +kernel
  exact (Fintype.bijective_iff_injective_and_card _).2 ⟨h c, by decide⟩

/-- So a device's term and its partners', added in mask order, are the sum over the devices. -/
theorem sum_partners (c : Dev nD) (g : Dev nD → EReal) :
    g c + g (peer 0 c) + g (peer 1 c) + g (peer 2 c) + g (peer 3 c) + g (peer 4 c) + g (peer 5 c) + g (peer 6 c)
      = ∑ e : Dev nD, g e := by
  rw [← (Equiv.ofBijective _ (withPartners_bijective c)).sum_comp g, Fin.sum_univ_eight]
  rfl

variable (m : (ℓ : Loc nD τ sig) → Buf (Elt Ideal) ℓ) (ρ : Dev nD → PrngReg)

/-- A slot's part at a row is the partial result at that row of the slot's chunk. -/
theorem part_apply (e : Dev nD) (s : Fin 8) (r : Fin 64) (n : Fin 512) :
    part m ρ e s (ix2 r n) = psum m ρ e (ix2 ⟨64 * (chunk e s).val + r.val, by omega⟩ n) := by
  unfold part k0_pay26
  rw [shapeCast_self, truncf_apply]
  have e1 : pM.view.readAt (Elt Ideal) (oR e s).toLoadRect (psum m ρ e) (ix2 r n) = psum m ρ e ((oR e s).emb (ix2 r n)) := rfl
  rw [e1]
  have h3 := off3_eq e s
  refine congrArg (psum m ρ e) (Shape.idx_ext₂ ?_ ?_)
  · show (k0_off3 e (BitVec.ofNat 32 s.val)) 0 + 1 * r.val = 64 * (chunk e s).val + r.val
    rw [h3]; show 64 * (chunk e s).val + 1 * r.val = _; omega
  · show (k0_off3 e (BitVec.ofNat 32 s.val)) 1 + 1 * n.val = n.val
    rw [h3]; show 0 + 1 * n.val = n.val; omega

/-- A partner's part for this device has the rows of this device's chunk. -/
theorem part_partner (k : Fin 7) (c : Dev nD) (r : Fin 64) (n : Fin 512) :
    part m ρ (peer k c) (slot k) (ix2 r n) = psum m ρ (peer k c) (ix2 ⟨64 * (vr c).val + r.val, by omega⟩ n) := by
  have h : chunk (peer k c) (slot k) = vr c := by rw [chunk_slot, peer_peer]
  rw [part_apply]
  congr 2
  exact Fin.ext (by show 64 * (chunk (peer k c) (slot k)).val + r.val = 64 * (vr c).val + r.val; rw [h])

theorem part_own (c : Dev nD) (r : Fin 64) (n : Fin 512) :
    part m ρ c 0 (ix2 r n) = psum m ρ c (ix2 ⟨64 * (vr c).val + r.val, by omega⟩ n) := by
  rw [part_apply]
  congr 2
  exact Fin.ext (by show 64 * (chunk c 0).val + r.val = 64 * (vr c).val + r.val; rw [chunk_zero])

/-- A chunk's sum, at a row of the chunk. -/
theorem tot_apply (c : Dev nD) (r : Fin 64) (n : Fin 512) :
    tot m ρ c (ix2 r n) = ∑ e : Dev nD, psum m ρ e (ix2 ⟨64 * (vr c).val + r.val, by omega⟩ n) := by
  rw [← sum_partners c]
  unfold tot k0_pay38 k0_pay37 k0_pay36 k0_pay35 k0_pay34
  rw [shapeCast_self]
  simp only [truncf_apply, addf_apply, extf_apply, part_own, part_partner]

/-- The kernel's result: the devices' partial results, added. -/
theorem outAll_sum (r n : Fin 512) : outAll m ρ (ix2 r n) = ∑ e : Dev nD, psum m ρ e (ix2 r n) := by
  have hv : ∀ k : Fin 8, vr (owner k) = k := by decide
  have h : outAll m ρ (ix2 r n) = tot m ρ (owner ⟨r.val / 64, by omega⟩) (ix2 ⟨r.val % 64, Nat.mod_lt _ (by decide)⟩ n) := by
    unfold outAll k0_pay39
    rw [extf_apply]
    refine congrArg (tot m ρ _) (funext fun a => ?_)
    match a with
    | ⟨0, _⟩ => rfl
    | ⟨1, _⟩ => rfl
  rw [h, tot_apply]
  refine Finset.sum_congr rfl fun e _ => ?_
  congr 2
  refine Fin.ext ?_
  show 64 * (vr (owner ⟨r.val / 64, _⟩)).val + r.val % 64 = r.val
  rw [hv]
  show 64 * (r.val / 64) + r.val % 64 = r.val
  omega

/-- A sum over the 2048 columns is the sum over the devices of the sums over each one's 256. -/
theorem sum_columns (f : Fin 2048 → EReal) : ∑ e : Dev nD, ∑ w : Fin 256, f (wide e w) = ∑ u : Fin 2048, f u := by
  rw [← Fintype.sum_prod_type' (f := fun (e : Dev nD) (w : Fin 256) => f (wide e w))]
  refine Fintype.sum_equiv (finProdFinEquiv (m := 8) (n := 256)) _ _ fun p => congrArg f (Fin.ext ?_)
  show 256 * p.1.val + p.2.val = p.2.val + 256 * p.1.val
  omega

variable {m} {X : XT} {Wq : WqT} {K V : KVT} {Wo : WoT}

/-- **The kernel's result is the whole attention's.** -/
theorem outAll_apply (H : Holds m X Wq K V Wo) (b : Fin 2) (i : Fin 256) (n : Fin 512) :
    outAll m ρ (ix2 ⟨256 * b.val + i.val, by omega⟩ n) = resAt X Wq K V Wo b i n := by
  rw [outAll_sum]
  simp only [psum_apply ρ H]
  exact sum_columns fun u => ctxAt X Wq K V b i (headOf u) (colOf u) * Wo (ix2 u n)

end Cert.Value
-- ==== Proof.Value.ReferenceStages.lean ====
/-
# The reference's program, in stages

What the reference's operations compute, one stage at a time: the mask's bits, the masked and scaled scores, their
exponentials less the row's largest, the weights, and the result. Its printed result is these stages composed
(`result_eq`).
-/
module

public import proofs.«01_k».proof.Proof.Gen.ReferenceIdeal.Run
public import proofs.«01_k».proof.Proof.Value.Attention

@[expose] public section

noncomputable section

namespace Cert.Value.Reference

open Idealize.ShloMosaic Idealize.ShloMosaic.TcCoe Idealize.SL.Sem
open Cert.ReferenceIdeal Cert.ReferenceIdeal.Gen

/-- The block number of each position. -/
def blockNo : IVec S256 32 :=
  select
    (andi
      (cmpi .ne (signi (iotaInDim S256 32 0)) (broadcastInDim S256 ![] bcast_S_S256 (signi (id (constantI S_ 32 64#32)))))
      (cmpi .ne (Host.remsi (iotaInDim S256 32 0) (broadcastInDim S256 ![] bcast_S_S256 (id (constantI S_ 32 64#32))))
        (broadcastInDim S256 ![] bcast_S_S256 (constantI S_ 32 0#32))))
    (subi (Host.divsi (iotaInDim S256 32 0) (broadcastInDim S256 ![] bcast_S_S256 (id (constantI S_ 32 64#32))))
      (broadcastInDim S256 ![] bcast_S_S256 (constantI S_ 32 1#32)))
    (Host.divsi (iotaInDim S256 32 0) (broadcastInDim S256 ![] bcast_S_S256 (id (constantI S_ 32 64#32))))

/-- The query's block, for every pair of a query and a key; -/
def rowNo : IVec S256x256 32 :=
  broadcastInDim S256x256 ![0, 1] bcast_S256x1_S256x256_0_1 (broadcastInDim S256x1 ![0] bcast_S256_S256x1_0 blockNo)
/-- the key's. -/
def colNo : IVec S256x256 32 :=
  broadcastInDim S256x256 ![0, 1] bcast_S1x256_S256x256_0_1 (broadcastInDim S1x256 ![1] bcast_S256_S1x256_1 blockNo)

/-- The number the block numbers' sums are taken modulo. -/
def three : IVec S_ 32 :=
  select (cmpi .eq (id (constantI S_ 32 3#32)) (constantI S_ 32 0#32)) (constantI S_ 32 1#32) (id (constantI S_ 32 3#32))

/-- The sum's remainder. -/
def rem : IVec S256x256 32 :=
  Host.remsi (addi rowNo colNo) (broadcastInDim S256x256 ![] bcast_S_S256x256 three)

/-- Which keys a query sees. -/
def mask : IVec S256x256 1 :=
  ori
    (ori (cmpi .eq rowNo colNo)
      (broadcastInDim S256x256 ![0, 1] bcast_S1x256_S256x256_0_1
        (cmpi .eq (broadcastInDim S1x256 ![1] bcast_S256_S1x256_1 blockNo)
          (broadcastInDim S1x256 ![] bcast_S_S1x256 (constantI S_ 32 0#32)))))
    (cmpi .eq
      (select
        (andi
          (cmpi .ne (cmpi .slt rem (broadcastInDim S256x256 ![] bcast_S_S256x256 (constantI S_ 32 0#32)))
            (broadcastInDim S256x256 ![] bcast_S_S256x256 (cmpi .slt three (constantI S_ 32 0#32))))
          (cmpi .ne rem (broadcastInDim S256x256 ![] bcast_S_S256x256 (constantI S_ 32 0#32))))
        (addi rem (broadcastInDim S256x256 ![] bcast_S_S256x256 three)) rem)
      (broadcastInDim S256x256 ![] bcast_S_S256x256 (constantI S_ 32 0#32)))

/-- Whether a query sees any key. -/
def keep : IVec S1x1x256x1 1 :=
  broadcastInDim S1x1x256x1 ![2] bcast_S256_S1x1x256x1_2
    (Host.reduce IntOp.ori mask (constantI S_ 1 0#1) reducesTo_S256x256_S256_d1 h_S_)

variable (X : FVec Ideal S2x256x512 .f32) (Wq : FVec Ideal S512x2048 .f32) (K V : FVec Ideal S2x256x32x64 .f32)
  (Wo : FVec Ideal S2048x512 .f32)

/-- The projected queries, by head. -/
def proj : FVec Ideal S2x256x32x64 .f32 :=
  shapeCast _ (Host.dotGeneral dot_S2x256x512_S512x2048_S2x256x2048_2_0_01_1_n_n none X Wq) shapeCasts_S2x256x2048_S2x256x32x64

/-- The masked scores. -/
def score : FVec Ideal S2x32x256x256 .f32 :=
  select
    (broadcastInDim S2x32x256x256 ![0, 1, 2, 3] bcast_S1x1x256x256_S2x32x256x256_0_1_2_3
      (broadcastInDim S1x1x256x256 ![2, 3] bcast_S256x256_S1x1x256x256_2_3 mask))
    (mulf (Host.dotGeneral dot_S2x256x32x64_S2x256x32x64_S2x32x256x256_3_3_1_1_02_02 none (proj X Wq) K)
      (broadcastInDim S2x32x256x256 ![] bcast_S_S2x32x256x256 (constant S_ .f32 0x3E000000#32)))
    (broadcastInDim S2x32x256x256 ![] bcast_S_S2x32x256x256 (id (constant S_ .f32 0xCE6E6B28#32)))

/-- A row's largest score. -/
def rowMax : FVec Ideal S2x32x256 .f32 :=
  Host.reduce FloatOps.maximumf (score X Wq K) (constant S_ .f32 0xFF800000#32) reducesTo_S2x32x256x256_S2x32x256_d3 h_S_

/-- The scores' exponentials, less the row's largest score. -/
def expScore : FVec Ideal S2x32x256x256 .f32 :=
  Host.exp (subf (score X Wq K)
    (broadcastInDim S2x32x256x256 ![0, 1, 2, 3] bcast_S2x32x256x1_S2x32x256x256_0_1_2_3
      (broadcastInDim S2x32x256x1 ![0, 1, 2] bcast_S2x32x256_S2x32x256x1_0_1_2 (rowMax X Wq K))))

/-- A row's sum of them, or one where a query sees no key. -/
def rowSum : FVec Ideal S2x32x256x1 .f32 :=
  select (broadcastInDim S2x32x256x1 ![0, 1, 2, 3] bcast_S1x1x256x1_S2x32x256x1_0_1_2_3 keep)
    (broadcastInDim S2x32x256x1 ![0, 1, 2] bcast_S2x32x256_S2x32x256x1_0_1_2
      (Host.reduceAdd (expScore X Wq K) (constant S_ .f32 0x00000000#32) reducesTo_S2x32x256x256_S2x32x256_d3 h_S_))
    (broadcastInDim S2x32x256x1 ![] bcast_S_S2x32x256x1 (id (constant S_ .f32 0x3F800000#32)))

/-- The weights, zero where a query sees no key. -/
def weight : FVec Ideal S2x32x256x256 .f32 :=
  select (broadcastInDim S2x32x256x256 ![0, 1, 2, 3] bcast_S1x1x256x1_S2x32x256x256_0_1_2_3 keep)
    (Host.divf (expScore X Wq K)
      (broadcastInDim S2x32x256x256 ![0, 1, 2, 3] bcast_S2x32x256x1_S2x32x256x256_0_1_2_3 (rowSum X Wq K)))
    (broadcastInDim S2x32x256x256 ![] bcast_S_S2x32x256x256 (id (constant S_ .f32 0x00000000#32)))

/-- The weighted values, a head's columns side by side. -/
def context : FVec Ideal S2x256x2048 .f32 :=
  shapeCast _
    (transpose S2x256x32x64 [0, 3, 1, 2]
      (Host.dotGeneral dot_S2x256x32x64_S2x32x256x256_S2x32x64x256_1_3_3_2_02_01 none V (weight X Wq K))
      transposes_S2x32x64x256_S2x256x32x64_0_3_1_2)
    shapeCasts_S2x256x32x64_S2x256x2048

/-- The result. -/
def result : FVec Ideal S512x512 .f32 :=
  shapeCast _ (Host.dotGeneral dot_S2x256x2048_S2048x512_S2x256x512_2_0_01_1_n_n none (context X Wq K V) Wo)
    shapeCasts_S2x256x512_S512x512

/-- The printed result is the stages composed. -/
theorem result_eq (m : (ℓ : Loc nD τ sig) → Buf (Elt Ideal) ℓ) (c : Dev nD) :
    Cert.ReferenceIdeal.Value.res_main_v45 m c
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := rfl

end Cert.Value.Reference
-- ==== Proof.Value.ReferenceMask.lean ====
/-
# The keys a query sees, as the reference computes them

The reference's block numbers and its mask at a query and a key are the words the kernel's are (`mask_apply`); and since
every query sees the first key, no row is masked whole (`keep_apply`).
-/
module

public import proofs.«01_k».proof.Proof.Value.ReferenceStages

@[expose] public section

noncomputable section

namespace Cert.Value.Reference

open Idealize.ShloMosaic Idealize.ShloMosaic.ValueIdx
open Cert.ReferenceIdeal Cert.ReferenceIdeal.Gen

/-- A quotient by 64 rounded down, as the reference computes it of a word. -/
def blockWord (x : BitVec 32) : BitVec 32 :=
  Scalar.select
    (IntOp.andi
      (IntOp.cmpi .ne (if x = 0 then 0 else if x.msb then -1 else 1)
        (if (64#32 : BitVec 32) = 0 then (0 : BitVec 32) else if (64#32 : BitVec 32).msb then -1 else 1))
      (IntOp.cmpi .ne (IntOp.remsi .host x 64#32) 0#32))
    (IntOp.subi (IntOp.divsi .host x 64#32) 1#32) (IntOp.divsi .host x 64#32)

/-- The number the reference takes block numbers' sums modulo. -/
def threeWord : BitVec 32 := Scalar.select (IntOp.cmpi .eq 3#32 0#32) 1#32 3#32

/-- The bit the reference computes of a query's block and a key's. -/
def seesWord (q k : BitVec 32) : BitVec 1 :=
  IntOp.ori (IntOp.ori (IntOp.cmpi .eq q k) (IntOp.cmpi .eq k 0#32))
    (IntOp.cmpi .eq
      (Scalar.select
        (IntOp.andi
          (IntOp.cmpi .ne (IntOp.cmpi .slt (IntOp.remsi .host (IntOp.addi q k) threeWord) 0#32) (IntOp.cmpi .slt threeWord 0#32))
          (IntOp.cmpi .ne (IntOp.remsi .host (IntOp.addi q k) threeWord) 0#32))
        (IntOp.addi (IntOp.remsi .host (IntOp.addi q k) threeWord) threeWord) (IntOp.remsi .host (IntOp.addi q k) threeWord))
      0#32)

theorem blockWord_eq : ∀ i : Fin 256, blockWord (BitVec.ofNat 32 i.val) = BitVec.ofNat 32 (i.val / 64) := by decide +kernel

theorem seesWord_eq : ∀ a b : Fin 4, seesWord (BitVec.ofNat 32 a.val) (BitVec.ofNat 32 b.val)
    = if a.val = b.val ∨ b.val = 0 ∨ (a.val + b.val) % 3 = 0 then 1#1 else 0#1 := by decide +kernel

theorem blockNo_apply (i : Fin 256) : blockNo (ix1 i) = BitVec.ofNat 32 (i.val / 64) :=
  (show blockNo (ix1 i) = blockWord (BitVec.ofNat 32 i.val) from rfl).trans (blockWord_eq i)

theorem rowNo_apply (i j : Fin 256) : rowNo (ix2 i j) = BitVec.ofNat 32 (i.val / 64) := by
  refine (broadcastInDim_apply _ _ _ (ix2 i j) (ix2 i 0) fun a => ?_).trans
    ((broadcastInDim_apply _ _ _ (ix2 i 0) (ix1 i) fun a => ?_).trans (blockNo_apply i))
  · match a with
    | ⟨0, _⟩ => rfl
    | ⟨1, _⟩ => rfl
  · match a with
    | ⟨0, _⟩ => rfl

theorem colNo_apply (i j : Fin 256) : colNo (ix2 i j) = BitVec.ofNat 32 (j.val / 64) := by
  refine (broadcastInDim_apply _ _ _ (ix2 i j) (ix2 0 j) fun a => ?_).trans
    ((broadcastInDim_apply _ _ _ (ix2 0 j) (ix1 j) fun a => ?_).trans (blockNo_apply j))
  · match a with
    | ⟨0, _⟩ => rfl
    | ⟨1, _⟩ => rfl
  · match a with
    | ⟨0, _⟩ => rfl

/-- The reference's mask at a query and a key. -/
theorem mask_apply (i j : Fin 256) : mask (ix2 i j) = sees i j := by
  have e : mask (ix2 i j) = seesWord (rowNo (ix2 i j)) (colNo (ix2 i j)) := rfl
  rw [e, rowNo_apply, colNo_apply]
  exact seesWord_eq ⟨i.val / 64, by omega⟩ ⟨j.val / 64, by omega⟩

/-- A left fold by `or` over bits, one of them 1, or from 1, is 1. -/
theorem foldl_ori_one {ι : Type} (f : ι → BitVec 1) :
    ∀ (l : List ι) (init : BitVec 1), init = 1#1 ∨ (∃ n ∈ l, f n = 1#1) → l.foldl (fun r n => IntOp.ori r (f n)) init = 1#1
  | [], _, h => h.resolve_right fun ⟨_, hn, _⟩ => nomatch hn
  | a :: l, init, h => by
    have h1 : ∀ x : BitVec 1, IntOp.ori 1#1 x = 1#1 := by decide
    have h2 : ∀ x : BitVec 1, IntOp.ori x 1#1 = 1#1 := by decide
    refine foldl_ori_one f l _ ?_
    rcases h with h | ⟨n, hn, hf⟩
    · exact .inl (by rw [h]; exact h1 _)
    · rcases List.mem_cons.1 hn with rfl | hn
      · exact .inl (by show IntOp.ori init (f n) = 1#1; rw [hf]; exact h2 _)
      · exact .inr ⟨n, hn, hf⟩

/-- Every query sees a key. -/
theorem anySeen (i : Fin 256) :
    Host.reduce IntOp.ori mask (constantI S_ 1 0#1) reducesTo_S256x256_S256_d1 h_S_ (ix1 i) = 1#1 := by
  rw [Host.reduce_eq_foldl]
  refine foldl_ori_one mask _ _ (.inr ⟨ix2 i 0, ?_, (mask_apply i 0).trans (sees_first i)⟩)
  rw [List.mem_filter]
  refine ⟨List.mem_map.2 ⟨S256x256.rowMajor (ix2 i 0), List.mem_finRange _, Equiv.symm_apply_apply _ _⟩, ?_⟩
  have hd : (reducesTo_S256x256_S256_d1 : S256x256.ReducesTo [1] S256).drop (ix2 i 0) = ix1 i := by
    funext a
    match a with
    | ⟨0, _⟩ => rfl
  simp [hd]

theorem keep_apply (i : Fin 256) : keep (ix4 0 0 i 0) = 1#1 := by
  refine (broadcastInDim_apply _ _ _ (ix4 0 0 i 0) (ix1 i) fun a => ?_).trans (anySeen i)
  match a with
  | ⟨0, _⟩ => rfl

end Cert.Value.Reference
-- ==== Proof.Value.ReferenceScores.lean ====
/-
# The reference's scores and weights, at an index

The masked scores are the whole attention's (`score_apply`); the weights are their exponentials, less the row's largest
score, divided by the row's sum of those (`weight_apply`).
-/
module

public import proofs.«01_k».proof.Proof.Value.ReferenceMask

@[expose] public section

noncomputable section

namespace Cert.Value.Reference

open Idealize.ShloMosaic Idealize.ShloMosaic.ValueIdx
open Cert.ReferenceIdeal Cert.ReferenceIdeal.Gen
open scoped BigOperators

/-- A contraction over one coordinate, read at an index: `li k` and `ri k` are the operands' indices at position `k`. -/
theorem dot_read {sl sr so : Shape} (D : DotDims sl sr so) (n : ℕ) (hr : D.contr.rank = 1) (hs : D.contr.size ⟨0, by omega⟩ = n)
    (sched : HostSchedule) (L : FVec Ideal sl .f32) (R : FVec Ideal sr .f32) (j : so.Idx) (li : Fin n → sl.Idx) (ri : Fin n → sr.Idx)
    (hl : ∀ k, D.lhsIdx j ((contrEquiv1 D n hr hs).symm k) = li k) (hi : ∀ k, D.rhsIdx j ((contrEquiv1 D n hr hs).symm k) = ri k) :
    FloatOps.dotGeneral D none sched L R j = ∑ k : Fin n, L (li k) * R (ri k) := by
  rw [Ideal.dotGeneral_apply, ← Equiv.sum_comp (contrEquiv1 D n hr hs).symm]
  exact Finset.sum_congr rfl fun k _ => by rw [hl, hi]

variable (X : FVec Ideal S2x256x512 .f32) (Wq : FVec Ideal S512x2048 .f32) (K V : FVec Ideal S2x256x32x64 .f32)
  (Wo : FVec Ideal S2048x512 .f32)

theorem proj_apply (b : Fin 2) (i : Fin 256) (h : Fin 32) (d : Fin 64) :
    proj X Wq (ix4 b i h d) = projAt X Wq b i (col h d) := by
  refine (shapeCast_apply _ _ (ix4 b i h d) (ix3 b i (col h d)) ?_).trans ?_
  · rw [Shape.rowMajor_val_three, Shape.rowMajor_val_four]
    show (b.val * 256 + i.val) * 2048 + (64 * h.val + d.val) = ((b.val * 256 + i.val) * 32 + h.val) * 64 + d.val
    ring
  refine dot_read dot_S2x256x512_S512x2048_S2x256x2048_2_0_01_1_n_n 512 rfl rfl _ X Wq _ (fun e => ix3 b i e)
    (fun e => ix2 e (col h d)) (fun e => ?_) (fun e => ?_)
  · have hk := contrEquiv1_symm_val dot_S2x256x512_S512x2048_S2x256x2048_2_0_01_1_n_n 512 rfl rfl e
    funext a; apply Fin.ext
    match a with
    | ⟨0, _⟩ => rfl
    | ⟨1, _⟩ => rfl
    | ⟨2, _⟩ => exact hk
  · have hk := contrEquiv1_symm_val dot_S2x256x512_S512x2048_S2x256x2048_2_0_01_1_n_n 512 rfl rfl e
    funext a; apply Fin.ext
    match a with
    | ⟨0, _⟩ => exact hk
    | ⟨1, _⟩ => rfl

theorem product_apply (b : Fin 2) (h : Fin 32) (i j : Fin 256) :
    (Host.dotGeneral dot_S2x256x32x64_S2x256x32x64_S2x32x256x256_3_3_1_1_02_02 none (proj X Wq) K : FVec Ideal S2x32x256x256 .f32)
      (ix4 b h i j) = ∑ d : Fin 64, projAt X Wq b i (col h d) * K (ix4 b j h d) := by
  refine (dot_read dot_S2x256x32x64_S2x256x32x64_S2x32x256x256_3_3_1_1_02_02 64 rfl rfl _ (proj X Wq) K _ (fun d => ix4 b i h d)
    (fun d => ix4 b j h d) (fun d => ?_) (fun d => ?_)).trans (Finset.sum_congr rfl fun d _ => by rw [proj_apply])
  · have hk := contrEquiv1_symm_val dot_S2x256x32x64_S2x256x32x64_S2x32x256x256_3_3_1_1_02_02 64 rfl rfl d
    funext a; apply Fin.ext
    match a with
    | ⟨0, _⟩ => rfl
    | ⟨1, _⟩ => rfl
    | ⟨2, _⟩ => rfl
    | ⟨3, _⟩ => exact hk
  · have hk := contrEquiv1_symm_val dot_S2x256x32x64_S2x256x32x64_S2x32x256x256_3_3_1_1_02_02 64 rfl rfl d
    funext a; apply Fin.ext
    match a with
    | ⟨0, _⟩ => rfl
    | ⟨1, _⟩ => rfl
    | ⟨2, _⟩ => rfl
    | ⟨3, _⟩ => exact hk

/-- **The reference's masked scores are the whole attention's.** -/
theorem score_apply (b : Fin 2) (h : Fin 32) (i j : Fin 256) : score X Wq K (ix4 b h i j) = scoreAt X Wq K b h i j := by
  have hm : broadcastInDim S2x32x256x256 ![0, 1, 2, 3] bcast_S1x1x256x256_S2x32x256x256_0_1_2_3
      (broadcastInDim S1x1x256x256 ![2, 3] bcast_S256x256_S1x1x256x256_2_3 mask) (ix4 b h i j) = sees i j := by
    refine (broadcastInDim_apply _ _ _ (ix4 b h i j) (ix4 0 0 i j) fun a => ?_).trans
      ((broadcastInDim_apply _ _ _ (ix4 0 0 i j) (ix2 i j) fun a => ?_).trans (mask_apply i j))
    · match a with
      | ⟨0, _⟩ => rfl
      | ⟨1, _⟩ => rfl
      | ⟨2, _⟩ => rfl
      | ⟨3, _⟩ => rfl
    · match a with
      | ⟨0, _⟩ => rfl
      | ⟨1, _⟩ => rfl
  unfold score scoreAt
  rw [select_apply, hm, mulf_apply, product_apply]
  rfl

/-- A row's largest score. -/
def maxAt (b : Fin 2) (h : Fin 32) (i : Fin 256) : EReal :=
  (Finset.univ : Finset (Fin 256)).fold max ⊥ fun j => scoreAt X Wq K b h i j

theorem reduces_keys : S2x32x256x256.Reduces [3] S2x32x256 := by decide

theorem lift_keys (b : Fin 2) (h : Fin 32) (i j : Fin 256) : reduces_keys.lift (ix3 b h i) j = ix4 b h i j := by
  funext a; apply Fin.ext
  match a with
  | ⟨0, _⟩ => rfl
  | ⟨1, _⟩ => rfl
  | ⟨2, _⟩ => rfl
  | ⟨3, _⟩ => rfl

theorem neg_inf : Ideal.ofBits .f32 0xFF800000#32 = ⊥ := by simp [Ideal.ofBits, Ideal.ieee]

theorem rowMax_apply (b : Fin 2) (h : Fin 32) (i : Fin 256) : rowMax X Wq K (ix3 b h i) = maxAt X Wq K b h i := by
  unfold rowMax maxAt
  rw [Host.reduce_eq_fold_single FloatOps.maximumf _ _ _ reduces_keys]
  have e : (score X Wq K ∘ reduces_keys.lift (ix3 b h i)) = fun j : Fin 256 => scoreAt X Wq K b h i j :=
    funext fun j => (congrArg (score X Wq K) (lift_keys b h i j)).trans (score_apply X Wq K b h i j)
  rw [e]
  show Finset.fold max (Ideal.ofBits .f32 0xFF800000#32) _ _ = _
  rw [neg_inf]
  rfl

/-- A per-row array spread over the keys reads the row. -/
theorem overKeys_apply (f : FVec Ideal S2x32x256x1 .f32) (b : Fin 2) (h : Fin 32) (i j : Fin 256) :
    broadcastInDim S2x32x256x256 ![0, 1, 2, 3] bcast_S2x32x256x1_S2x32x256x256_0_1_2_3 f (ix4 b h i j) = f (ix4 b h i 0) := by
  refine broadcastInDim_apply _ _ _ (ix4 b h i j) (ix4 b h i 0) fun a => ?_
  match a with
  | ⟨0, _⟩ => rfl
  | ⟨1, _⟩ => rfl
  | ⟨2, _⟩ => rfl
  | ⟨3, _⟩ => rfl

/-- A per-row array with a unit axis added reads the row. -/
theorem perRow_apply (f : FVec Ideal S2x32x256 .f32) (b : Fin 2) (h : Fin 32) (i : Fin 256) :
    broadcastInDim S2x32x256x1 ![0, 1, 2] bcast_S2x32x256_S2x32x256x1_0_1_2 f (ix4 b h i 0) = f (ix3 b h i) := by
  refine broadcastInDim_apply _ _ _ (ix4 b h i 0) (ix3 b h i) fun a => ?_
  match a with
  | ⟨0, _⟩ => rfl
  | ⟨1, _⟩ => rfl
  | ⟨2, _⟩ => rfl

theorem expScore_apply (b : Fin 2) (h : Fin 32) (i j : Fin 256) :
    expScore X Wq K (ix4 b h i j) = Ideal.exp (scoreAt X Wq K b h i j - maxAt X Wq K b h i) := by
  unfold expScore
  refine congrArg Ideal.exp ?_
  rw [subf_apply, score_apply, overKeys_apply, perRow_apply, rowMax_apply]

theorem rowSum_apply (b : Fin 2) (h : Fin 32) (i : Fin 256) :
    rowSum X Wq K (ix4 b h i 0) = ∑ j : Fin 256, Ideal.exp (scoreAt X Wq K b h i j - maxAt X Wq K b h i) := by
  have hk : broadcastInDim S2x32x256x1 ![0, 1, 2, 3] bcast_S1x1x256x1_S2x32x256x1_0_1_2_3 keep (ix4 b h i 0) = 1#1 := by
    refine (broadcastInDim_apply _ _ _ (ix4 b h i 0) (ix4 0 0 i 0) fun a => ?_).trans (keep_apply i)
    match a with
    | ⟨0, _⟩ => rfl
    | ⟨1, _⟩ => rfl
    | ⟨2, _⟩ => rfl
    | ⟨3, _⟩ => rfl
  unfold rowSum
  rw [select_apply, hk, select_one, perRow_apply, hostReduceAdd_apply, Ideal.hostReduceAdd_single _ reduces_keys, constant_apply,
    Ideal.ofBits_zero_f32, zero_add]
  exact Finset.sum_congr rfl fun j _ => (congrArg (expScore X Wq K) (lift_keys b h i j)).trans (expScore_apply X Wq K b h i j)

/-- **The reference's weights.** -/
theorem weight_apply (b : Fin 2) (h : Fin 32) (i j : Fin 256) :
    weight X Wq K (ix4 b h i j)
      = Ideal.div (Ideal.exp (scoreAt X Wq K b h i j - maxAt X Wq K b h i))
          (∑ k : Fin 256, Ideal.exp (scoreAt X Wq K b h i k - maxAt X Wq K b h i)) := by
  have hk : broadcastInDim S2x32x256x256 ![0, 1, 2, 3] bcast_S1x1x256x1_S2x32x256x256_0_1_2_3 keep (ix4 b h i j) = 1#1 := by
    refine (broadcastInDim_apply _ _ _ (ix4 b h i j) (ix4 0 0 i 0) fun a => ?_).trans (keep_apply i)
    match a with
    | ⟨0, _⟩ => rfl
    | ⟨1, _⟩ => rfl
    | ⟨2, _⟩ => rfl
    | ⟨3, _⟩ => rfl
  unfold weight
  rw [select_apply, hk, select_one, hostDivf_apply, overKeys_apply, rowSum_apply, expScore_apply]

end Cert.Value.Reference
-- ==== Proof.Value.ReferenceTotal.lean ====
/-
# The reference's result

A head's result is the values weighted by the row's weights (`context_apply`); of real scores that is the kernel's
quotient of two sums (`context_eq`). The result is the last product (`result_apply`).
-/
module

public import proofs.«01_k».proof.Proof.Value.ReferenceScores

@[expose] public section

noncomputable section

namespace Cert.Value.Reference

open Idealize.ShloMosaic Idealize.ShloMosaic.ValueIdx
open Cert.ReferenceIdeal Cert.ReferenceIdeal.Gen
open scoped BigOperators

variable (X : FVec Ideal S2x256x512 .f32) (Wq : FVec Ideal S512x2048 .f32) (K V : FVec Ideal S2x256x32x64 .f32)
  (Wo : FVec Ideal S2048x512 .f32)

theorem weighted_apply (b : Fin 2) (h : Fin 32) (d : Fin 64) (i : Fin 256) :
    (Host.dotGeneral dot_S2x256x32x64_S2x32x256x256_S2x32x64x256_1_3_3_2_02_01 none V (weight X Wq K) : FVec Ideal S2x32x64x256 .f32)
      (ix4 b h d i) = ∑ j : Fin 256, V (ix4 b j h d) * weight X Wq K (ix4 b h i j) := by
  refine dot_read dot_S2x256x32x64_S2x32x256x256_S2x32x64x256_1_3_3_2_02_01 256 rfl rfl _ V (weight X Wq K) _ (fun j => ix4 b j h d)
    (fun j => ix4 b h i j) (fun j => ?_) (fun j => ?_)
  · have hk := contrEquiv1_symm_val dot_S2x256x32x64_S2x32x256x256_S2x32x64x256_1_3_3_2_02_01 256 rfl rfl j
    funext a; apply Fin.ext
    match a with
    | ⟨0, _⟩ => rfl
    | ⟨1, _⟩ => exact hk
    | ⟨2, _⟩ => rfl
    | ⟨3, _⟩ => rfl
  · have hk := contrEquiv1_symm_val dot_S2x256x32x64_S2x32x256x256_S2x32x64x256_1_3_3_2_02_01 256 rfl rfl j
    funext a; apply Fin.ext
    match a with
    | ⟨0, _⟩ => rfl
    | ⟨1, _⟩ => rfl
    | ⟨2, _⟩ => rfl
    | ⟨3, _⟩ => exact hk

/-- A head's result at a query and a column. -/
theorem context_apply (b : Fin 2) (i : Fin 256) (u : Fin 2048) :
    context X Wq K V (ix3 b i u)
      = ∑ j : Fin 256, V (ix4 b j (headOf u) (colOf u)) * weight X Wq K (ix4 b (headOf u) i j) := by
  refine (shapeCast_apply _ _ (ix3 b i u) (ix4 b i (headOf u) (colOf u)) ?_).trans ?_
  · rw [Shape.rowMajor_val_four, Shape.rowMajor_val_three]
    show ((b.val * 256 + i.val) * 32 + u.val / 64) * 64 + u.val % 64 = (b.val * 256 + i.val) * 2048 + u.val
    omega
  refine (transpose_apply _ _ _ (ix4 b i (headOf u) (colOf u)) (ix4 b (headOf u) (colOf u) i) fun a => ?_).trans
    (weighted_apply X Wq K V b (headOf u) (colOf u) i)
  match a with
  | ⟨0, _⟩ => rfl
  | ⟨1, _⟩ => rfl
  | ⟨2, _⟩ => rfl
  | ⟨3, _⟩ => rfl

/-- **Of real queries, projections and keys it is the quotient the kernel takes.** -/
theorem context_eq (hX : ∀ i, IsReal (X i)) (hW : ∀ i, IsReal (Wq i)) (hK : ∀ i, IsReal (K i))
    (b : Fin 2) (i : Fin 256) (u : Fin 2048) :
    context X Wq K V (ix3 b i u) = ctxAt X Wq K V b i (headOf u) (colOf u) := by
  have hs : ∀ j, IsReal (scoreAt X Wq K b (headOf u) i j) := fun j => scoreAt_real X Wq K hX hW hK b (headOf u) i j
  have hM : IsReal (maxAt X Wq K b (headOf u) i) := isReal_fold_max _ _ hs ⟨0, Finset.mem_univ _⟩
  rw [context_apply]
  unfold ctxAt
  rw [weighted_mean_eq (by decide) _ hs _ hM]
  exact Finset.sum_congr rfl fun j _ => by rw [weight_apply]

/-- **The reference's result is the whole attention's.** -/
theorem result_apply (hX : ∀ i, IsReal (X i)) (hW : ∀ i, IsReal (Wq i)) (hK : ∀ i, IsReal (K i))
    (b : Fin 2) (i : Fin 256) (n : Fin 512) :
    result X Wq K V Wo (ix2 ⟨256 * b.val + i.val, by omega⟩ n) = resAt X Wq K V Wo b i n := by
  refine (shapeCast_apply _ _ _ (ix3 b i n) ?_).trans ?_
  · rw [Shape.rowMajor_val_three, Shape.rowMajor_val_two]
    show (b.val * 256 + i.val) * 512 + n.val = (256 * b.val + i.val) * 512 + n.val
    ring
  refine (dot_read dot_S2x256x2048_S2048x512_S2x256x512_2_0_01_1_n_n 2048 rfl rfl _ (context X Wq K V) Wo _ (fun u => ix3 b i u)
    (fun u => ix2 u n) (fun u => ?_) (fun u => ?_)).trans
    (Finset.sum_congr rfl fun u _ => by rw [context_eq X Wq K V hX hW hK])
  · have hk := contrEquiv1_symm_val dot_S2x256x2048_S2048x512_S2x256x512_2_0_01_1_n_n 2048 rfl rfl u
    funext a; apply Fin.ext
    match a with
    | ⟨0, _⟩ => rfl
    | ⟨1, _⟩ => rfl
    | ⟨2, _⟩ => exact hk
  · have hk := contrEquiv1_symm_val dot_S2x256x2048_S2048x512_S2x256x512_2_0_01_1_n_n 2048 rfl rfl u
    funext a; apply Fin.ext
    match a with
    | ⟨0, _⟩ => exact hk
    | ⟨1, _⟩ => rfl

end Cert.Value.Reference
-- ==== Proof.Value.Equation.lean ====
/-
# The two results are equal

At every row and column both are the whole attention's result (`equal`).
-/
module

public import proofs.«01_k».proof.Proof.Value.KernelTotal
public import proofs.«01_k».proof.Proof.Value.ReferenceTotal

@[expose] public section

noncomputable section

namespace Cert.Value

open Idealize.ShloMosaic Idealize.ShloMosaic.ValueIdx
open Cert.KernelIdeal Cert.KernelIdeal.Gen

variable {m : (ℓ : Loc nD τ sig) → Buf (Elt Ideal) ℓ} (ρ : Dev nD → PrngReg)
variable {X : XT} {Wq : WqT} {K V : KVT} {Wo : WoT}

/-- **Of real queries, projection and keys the kernel's result is the reference's.** -/
theorem equal (H : Holds m X Wq K V Wo) (hX : ∀ i, IsReal (X i)) (hW : ∀ i, IsReal (Wq i)) (hK : ∀ i, IsReal (K i)) :
    Exchange.outAll m ρ = Reference.result X Wq K V Wo := by
  funext p
  obtain ⟨r, n, rfl⟩ : ∃ (r : Fin 512) (n : Fin 512), p = ix2 r n :=
    ⟨p 0, p 1, funext fun a => by match a with | ⟨0, _⟩ => rfl | ⟨1, _⟩ => rfl⟩
  have hr : r = ⟨256 * (r.val / 256) + r.val % 256, by omega⟩ := Fin.ext (Nat.div_add_mod r.val 256).symm
  rw [hr]
  exact (outAll_apply ρ H ⟨r.val / 256, by omega⟩ ⟨r.val % 256, Nat.mod_lt _ (by decide)⟩ n).trans
    (Reference.result_apply X Wq K V Wo hX hW hK ⟨r.val / 256, by omega⟩ ⟨r.val % 256, Nat.mod_lt _ (by decide)⟩ n).symm

end Cert.Value
-- ==== Proof.lean ====
/-
# The claims, assembled

The frames of the three programs are their runs with the values left out; the value claim puts the kernel's run beside the
reference's, whose results are equal by `Cert.Value.equal`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Result
public import proofs.«01_k».proof.Proof.KernelIdeal.Result
public import proofs.«01_k».proof.Proof.Value.Finite
public import proofs.«01_k».proof.Proof.Value.Equation
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The reference's frame: it has no semaphore. -/
theorem frame_reference : Cert.quiescent_ReferenceIdeal (hReferenceIdeal := Cert.ReferenceIdeal.Gen.facts) := fun m g _ =>
  (θ_run _ _ _).mono (fun r h => ⟨fun c => (h c).2, sem_eq_zero_of_no_sems rfl _⟩) (Cert.ReferenceIdeal.Value.run m g)

/-- The sides of the precondition's broadcasts, at the kernel's shapes and at the reference's. -/
theorem sides_kernel : Cert.Pre_finite_KernelIdeal.Facts := ⟨by decide, by decide, by decide⟩
theorem sides_reference : Cert.Pre_finite_ReferenceIdeal.Facts := ⟨by decide, by decide, by decide⟩

/-- The value claim: both results are the reference's operations of the whole arrays. -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := sides_kernel) := by
  haveI := sides_kernel
  intro m g m' g' hpre harg
  have H : Cert.Value.Holds m _ _ _ _ _ := ⟨fun c => (harg c).1, fun c => (harg c).2.1, fun c => (harg c).2.2.1,
    fun c => (harg c).2.2.2.1, fun c => (harg c).2.2.2.2⟩
  have hreal := fun c => Cert.Value.inputs_real _ _ _ _ _ (hpre c).1 (hpre c).2.1 (hpre c).2.2
  have hX := (hreal 0).1
  rw [(harg 0).1] at hX
  have hW := (hreal 0).2.1
  rw [(harg 0).2.1] at hW
  have hK := Cert.Value.keys_real _ fun c => by
    have h := (hreal c).2.2
    rw [(harg c).2.2.1] at h
    exact h
  refine ⟨_, (θ_run _ _ _).mono (fun r h => h.1) (Cert.KernelIdeal.Exchange.run m g), (θ_run _ _ _).mono (fun r h => ?_)
    (Cert.ReferenceIdeal.Value.run m' g')⟩
  refine ⟨(h 0).1.trans ?_, (h 0).2⟩
  exact (Cert.Value.Reference.result_eq m' 0).trans (Cert.Value.equal g H hX hW hK).symm

/-- Everything that is claimed. -/
theorem claim : Cert.Claim := ⟨Cert.Kernel.Gen.facts, Cert.KernelIdeal.Gen.facts, Cert.ReferenceIdeal.Gen.facts,
  sides_kernel, sides_reference, fun m g _ => Cert.Kernel.Exchange.frame m g, fun m g _ => Cert.KernelIdeal.Exchange.frame m g,
  fun m g _ => Cert.KernelIdeal.Exchange.frame m g, frame_reference, fun m g _ => frame_reference m g trivial, trivial, algebraic⟩

end Cert.Proof

end
